-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2x4x1024 : Shape := ⟨4, ![4096, 2, 4, 1024]⟩
abbrev S8192x4 : Shape := ⟨2, ![8192, 4]⟩
abbrev S4x1024x2x4 : Shape := ⟨4, ![4, 1024, 2, 4]⟩
abbrev S2x4x1024x4 : Shape := ⟨4, ![2, 4, 1024, 4]⟩
abbrev S4096x2x4x16 : Shape := ⟨4, ![4096, 2, 4, 16]⟩
abbrev S512x2x4x1024 : Shape := ⟨4, ![512, 2, 4, 1024]⟩
abbrev S512x2x4x16 : Shape := ⟨4, ![512, 2, 4, 16]⟩
abbrev S512x4 : Shape := ⟨2, ![512, 4]⟩
abbrev S512x1x1x1024 : Shape := ⟨4, ![512, 1, 1, 1024]⟩
abbrev S512x1024 : Shape := ⟨2, ![512, 1024]⟩
abbrev S1x1x1024x4 : Shape := ⟨4, ![1, 1, 1024, 4]⟩
abbrev S1024x4 : Shape := ⟨2, ![1024, 4]⟩
abbrev S512x1 : Shape := ⟨2, ![512, 1]⟩
abbrev S512x16 : Shape := ⟨2, ![512, 16]⟩
abbrev S512x1x1x16 : Shape := ⟨4, ![512, 1, 1, 16]⟩
abbrev S524288 : Shape := ⟨1, ![524288]⟩
abbrev S4096x2x2x1024 : Shape := ⟨4, ![4096, 2, 2, 1024]⟩
abbrev S2x4x2x4x1024 : Shape := ⟨5, ![2, 4, 2, 4, 1024]⟩
abbrev S16384 : Shape := ⟨1, ![16384]⟩
abbrev S2x4x2x2x1024 : Shape := ⟨5, ![2, 4, 2, 2, 1024]⟩
abbrev S_ : Shape := ⟨0, ![]⟩
abbrev S1x4x2x4x1024 : Shape := ⟨5, ![1, 4, 2, 4, 1024]⟩
abbrev S4x2x4x1024 : Shape := ⟨4, ![4, 2, 4, 1024]⟩
abbrev S1x4x2x2x1024 : Shape := ⟨5, ![1, 4, 2, 2, 1024]⟩
abbrev S4x2x2x1024 : Shape := ⟨4, ![4, 2, 2, 1024]⟩
abbrev S16 : Shape := ⟨1, ![16]⟩
abbrev S1x1x1x1x16 : Shape := ⟨5, ![1, 1, 1, 1, 16]⟩

abbrev nBuf : Table → Nat
  | .hbm => 7
  | .local .tc .vmem => 5
  | .local .scVector .vmem => 3
  | _ => 0

abbrev bufTy : (tb : Table) → Fin (nBuf tb) → BufTy
  | .hbm, ⟨0, _⟩ => ⟨S4096x2x4x1024, .f32⟩
  | .hbm, ⟨1, _⟩ => ⟨S8192x4, .f32⟩
  | .hbm, ⟨2, _⟩ => ⟨S4x1024x2x4, .f32⟩
  | .hbm, ⟨3, _⟩ => ⟨S2x4x1024x4, .f32⟩
  | .hbm, ⟨4, _⟩ => ⟨S4096x2x4x16, .f32⟩
  | .hbm, ⟨5, _⟩ => ⟨S524288, .f32⟩
  | .hbm, ⟨6, _⟩ => ⟨S4096x2x2x1024, .f32⟩
  | .local .tc .vmem, ⟨0, _⟩ => ⟨S512x2x4x1024, .f32⟩
  | .local .tc .vmem, ⟨1, _⟩ => ⟨S512x2x4x1024, .f32⟩
  | .local .tc .vmem, ⟨2, _⟩ => ⟨S2x4x1024x4, .f32⟩
  | .local .tc .vmem, ⟨3, _⟩ => ⟨S512x2x4x16, .f32⟩
  | .local .tc .vmem, ⟨4, _⟩ => ⟨S512x2x4x16, .f32⟩
  | .local .scVector .vmem, ⟨0, _⟩ => ⟨S2x4x2x4x1024, .f32⟩
  | .local .scVector .vmem, ⟨1, _⟩ => ⟨S16384, .f32⟩
  | .local .scVector .vmem, ⟨2, _⟩ => ⟨S2x4x2x2x1024, .f32⟩
  | _, _ => ⟨S4096x2x4x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_arg0_scv : Ref sig .scVector := ⟨.hbm, 0, rfl⟩
abbrev main_v3_scv : Ref sig .scVector := ⟨.hbm, 5, rfl⟩
abbrev main_v4_scv : Ref sig .scVector := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x2x4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4x1024x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2x4x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c128_i32_0 : BitVec 32 := 128#32
  let v3 : BitVec 32 := Scalar.muli v2 c128_i32_0
  ![v3.toNat]
def k1_off2 (i : grid1.Coords) (c0_i32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v4 : BitVec 32 := Scalar.addi v2 c0_i32
  let c0_i32_6 : BitVec 32 := 0#32
  let c0_i32_7 : BitVec 32 := 0#32
  let c0_i32_8 : BitVec 32 := 0#32
  ![v4.toNat, 0, 0, 0]
@[reducible] def k1_t1_loop : Scf.Loop 32 :=
  let c0_i32_31 : BitVec 32 := 0#32
  let c16_i32 : BitVec 32 := 16#32
  let v18 : BitVec 32 := Scalar.addi c0_i32_31 c16_i32
  let c1_i32_32 : BitVec 32 := 1#32
  ⟨c0_i32_31, v18, c1_i32_32⟩
def k1_off3 (i : grid1.Coords) (k1_t1 : Fin k1_t1_loop.trips) (c0_i32_65 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_31 : BitVec 32 := 0#32
  let c1_i32_32 : BitVec 32 := 1#32
  let arg12 : BitVec 32 := Scf.iv c0_i32_31 c1_i32_32 k1_t1
  let c2_i32_64 : BitVec 32 := 2#32
  let v33 : BitVec 32 := Scalar.muli arg12 c2_i32_64
  let v34 : BitVec 32 := Scalar.addi v33 c0_i32_65
  let c4_i32_67 : BitVec 32 := 4#32
  let v37 : BitVec 32 := Scalar.muli v34 c4_i32_67
  let v38 : BitVec 32 := Scalar.addi v2 v37
  let c0_i32_73 : BitVec 32 := 0#32
  let c0_i32_74 : BitVec 32 := 0#32
  let c0_i32_75 : BitVec 32 := 0#32
  ![v38.toNat, 0, 0, 0]
def k1_cond1 (k1_t1 : Fin k1_t1_loop.trips) : BitVec 1 :=
  let c0_i32_31 : BitVec 32 := 0#32
  let c1_i32_32 : BitVec 32 := 1#32
  let arg12 : BitVec 32 := Scf.iv c0_i32_31 c1_i32_32 k1_t1
  let c2_i32_64 : BitVec 32 := 2#32
  let v33 : BitVec 32 := Scalar.muli arg12 c2_i32_64
  let c0_i32_65 : BitVec 32 := 0#32
  let v34 : BitVec 32 := Scalar.addi v33 c0_i32_65
  let c2_i32_83 : BitVec 32 := 2#32
  let v45 : BitVec 1 := Scalar.cmpi .sge v34 c2_i32_83
  let v46 : BitVec 32 := Scalar.extui v45
  let c0_i32_84 : BitVec 32 := 0#32
  let v47 : BitVec 1 := Scalar.cmpi .ne v46 c0_i32_84
  v47

def k1_off4 (i : grid1.Coords) (k1_t1 : Fin k1_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_31 : BitVec 32 := 0#32
  let c1_i32_32 : BitVec 32 := 1#32
  let arg12 : BitVec 32 := Scf.iv c0_i32_31 c1_i32_32 k1_t1
  let c2_i32_64 : BitVec 32 := 2#32
  let v33 : BitVec 32 := Scalar.muli arg12 c2_i32_64
  let c0_i32_65 : BitVec 32 := 0#32
  let v34 : BitVec 32 := Scalar.addi v33 c0_i32_65
  let c4_i32_66 : BitVec 32 := 4#32
  let v35 : BitVec 32 := Scalar.muli v34 c4_i32_66
  let v36 : BitVec 32 := Scalar.addi v2 v35
  let c8_i32 : BitVec 32 := 8#32
  let v371 : BitVec 32 := Scalar.subi v36 c8_i32
  let c0_i32_260 : BitVec 32 := 0#32
  let c0_i32_261 : BitVec 32 := 0#32
  let c0_i32_262 : BitVec 32 := 0#32
  ![v371.toNat, 0, 0, 0]
def k1_off5 (k1_t1 : Fin k1_t1_loop.trips) (c0_i32_65 : BitVec 32) (c0_i32_86 : BitVec 32) (c0_i32_88 : BitVec 32) : Fin 1 → Nat :=
  let c0_i32_31 : BitVec 32 := 0#32
  let c1_i32_32 : BitVec 32 := 1#32
  let arg12 : BitVec 32 := Scf.iv c0_i32_31 c1_i32_32 k1_t1
  let c2_i32_64 : BitVec 32 := 2#32
  let v33 : BitVec 32 := Scalar.muli arg12 c2_i32_64
  let v34 : BitVec 32 := Scalar.addi v33 c0_i32_65
  let c4_i32_85 : BitVec 32 := 4#32
  let v48 : BitVec 32 := Scalar.muli v34 c4_i32_85
  let v49 : BitVec 32 := Scalar.addi v48 c0_i32_86
  let c128_i32_87 : BitVec 32 := 128#32
  let v50 : BitVec 32 := Scalar.muli v49 c128_i32_87
  let v51 : BitVec 32 := Scalar.addi v50 c0_i32_88
  let v52 : Index := Scalar.indexCast v51
  ![v52.toNat]
@[reducible] def k1_t2_loop : Scf.Loop 32 :=
  let c0_i32_90 : BitVec 32 := 0#32
  let c64_i32_91 : BitVec 32 := 64#32
  let v83 : BitVec 32 := Scalar.addi c0_i32_90 c64_i32_91
  let c1_i32_92 : BitVec 32 := 1#32
  ⟨c0_i32_90, v83, c1_i32_92⟩
def k1_off6 (k1_t2 : Fin k1_t2_loop.trips) : Fin 5 → Nat :=
  let c0_i32_258 : BitVec 32 := 0#32
  let v374 : Index := Scalar.indexCast c0_i32_258
  let c0_i32_259 : BitVec 32 := 0#32
  let v375 : Index := Scalar.indexCast c0_i32_259
  let c0_i32_260 : BitVec 32 := 0#32
  let v376 : Index := Scalar.indexCast c0_i32_260
  let c0_i32_261 : BitVec 32 := 0#32
  let v377 : Index := Scalar.indexCast c0_i32_261
  let c0_i32_256 : BitVec 32 := 0#32
  let c0_i32_90 : BitVec 32 := 0#32
  let c1_i32_92 : BitVec 32 := 1#32
  let arg13 : BitVec 32 := Scf.iv c0_i32_90 c1_i32_92 k1_t2
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v378 : Index := Scalar.indexCast v373
  ![0, 0, 0, 0, v378.toNat]
def k1_off7 (k1_t2 : Fin k1_t2_loop.trips) : Fin 5 → Nat :=
  let c0_i32_262 : BitVec 32 := 0#32
  let v381 : Index := Scalar.indexCast c0_i32_262
  let c0_i32_263 : BitVec 32 := 0#32
  let v382 : Index := Scalar.indexCast c0_i32_263
  let c0_i32_264 : BitVec 32 := 0#32
  let v383 : Index := Scalar.indexCast c0_i32_264
  let c1_i32_265 : BitVec 32 := 1#32
  let v384 : Index := Scalar.indexCast c1_i32_265
  let c0_i32_256 : BitVec 32 := 0#32
  let c0_i32_90 : BitVec 32 := 0#32
  let c1_i32_92 : BitVec 32 := 1#32
  let arg13 : BitVec 32 := Scf.iv c0_i32_90 c1_i32_92 k1_t2
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v385 : Index := Scalar.indexCast v373
  ![0, 0, 0, 1, v385.toNat]
def k1_off8 (k1_t2 : Fin k1_t2_loop.trips) : Fin 5 → Nat :=
  let c0_i32_266 : BitVec 32 := 0#32
  let v388 : Index := Scalar.indexCast c0_i32_266
  let c0_i32_267 : BitVec 32 := 0#32
  let v389 : Index := Scalar.indexCast c0_i32_267
  let c0_i32_268 : BitVec 32 := 0#32
  let v390 : Index := Scalar.indexCast c0_i32_268
  let c2_i32_269 : BitVec 32 := 2#32
  let v391 : Index := Scalar.indexCast c2_i32_269
  let c0_i32_256 : BitVec 32 := 0#32
  let c0_i32_90 : BitVec 32 := 0#32
  let c1_i32_92 : BitVec 32 := 1#32
  let arg13 : BitVec 32 := Scf.iv c0_i32_90 c1_i32_92 k1_t2
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v392 : Index := Scalar.indexCast v373
  ![0, 0, 0, 2, v392.toNat]
def k1_off9 (k1_t2 : Fin k1_t2_loop.trips) : Fin 5 → Nat :=
  let c0_i32_270 : BitVec 32 := 0#32
  let v395 : Index := Scalar.indexCast c0_i32_270
  let c0_i32_271 : BitVec 32 := 0#32
  let v396 : Index := Scalar.indexCast c0_i32_271
  let c0_i32_272 : BitVec 32 := 0#32
  let v397 : Index := Scalar.indexCast c0_i32_272
  let c3_i32_273 : BitVec 32 := 3#32
  let v398 : Index := Scalar.indexCast c3_i32_273
  let c0_i32_256 : BitVec 32 := 0#32
  let c0_i32_90 : BitVec 32 := 0#32
  let c1_i32_92 : BitVec 32 := 1#32
  let arg13 : BitVec 32 := Scf.iv c0_i32_90 c1_i32_92 k1_t2
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v399 : Index := Scalar.indexCast v373
  ![0, 0, 0, 3, v399.toNat]
def k1_off10 (k1_t2 : Fin k1_t2_loop.trips) : Fin 5 → Nat :=
  let c0_i32_274 : BitVec 32 := 0#32
  let v409 : Index := Scalar.indexCast c0_i32_274
  let c0_i32_275 : BitVec 32 := 0#32
  let v410 : Index := Scalar.indexCast c0_i32_275
  let c0_i32_276 : BitVec 32 := 0#32
  let v411 : Index := Scalar.indexCast c0_i32_276
  let c0_i32_277 : BitVec 32 := 0#32
  let v412 : Index := Scalar.indexCast c0_i32_277
  let c0_i32_256 : BitVec 32 := 0#32
  let c0_i32_90 : BitVec 32 := 0#32
  let c1_i32_92 : BitVec 32 := 1#32
  let arg13 : BitVec 32 := Scf.iv c0_i32_90 c1_i32_92 k1_t2
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v413 : Index := Scalar.indexCast v373
  ![0, 0, 0, 0, v413.toNat]
def k1_off11 (k1_t2 : Fin k1_t2_loop.trips) : Fin 5 → Nat :=
  let c0_i32_278 : BitVec 32 := 0#32
  let v424 : Index := Scalar.indexCast c0_i32_278
  let c0_i32_279 : BitVec 32 := 0#32
  let v425 : Index := Scalar.indexCast c0_i32_279
  let c0_i32_280 : BitVec 32 := 0#32
  let v426 : Index := Scalar.indexCast c0_i32_280
  let c1_i32_281 : BitVec 32 := 1#32
  let v427 : Index := Scalar.indexCast c1_i32_281
  let c0_i32_256 : BitVec 32 := 0#32
  let c0_i32_90 : BitVec 32 := 0#32
  let c1_i32_92 : BitVec 32 := 1#32
  let arg13 : BitVec 32 := Scf.iv c0_i32_90 c1_i32_92 k1_t2
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v428 : Index := Scalar.indexCast v373
  ![0, 0, 0, 1, v428.toNat]
def k1_off12 (k1_t2 : Fin k1_t2_loop.trips) : Fin 5 → Nat :=
  let c0_i32_282 : BitVec 32 := 0#32
  let v432 : Index := Scalar.indexCast c0_i32_282
  let c0_i32_283 : BitVec 32 := 0#32
  let v433 : Index := Scalar.indexCast c0_i32_283
  let c1_i32_284 : BitVec 32 := 1#32
  let v434 : Index := Scalar.indexCast c1_i32_284
  let c0_i32_285 : BitVec 32 := 0#32
  let v435 : Index := Scalar.indexCast c0_i32_285
  let c0_i32_256 : BitVec 32 := 0#32
  let c0_i32_90 : BitVec 32 := 0#32
  let c1_i32_92 : BitVec 32 := 1#32
  let arg13 : BitVec 32 := Scf.iv c0_i32_90 c1_i32_92 k1_t2
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v436 : Index := Scalar.indexCast v373
  ![0, 0, 1, 0, v436.toNat]
def k1_off13 (k1_t2 : Fin k1_t2_loop.trips) : Fin 5 → Nat :=
  let c0_i32_286 : BitVec 32 := 0#32
  let v439 : Index := Scalar.indexCast c0_i32_286
  let c0_i32_287 : BitVec 32 := 0#32
  let v440 : Index := Scalar.indexCast c0_i32_287
  let c1_i32_288 : BitVec 32 := 1#32
  let v441 : Index := Scalar.indexCast c1_i32_288
  let c1_i32_289 : BitVec 32 := 1#32
  let v442 : Index := Scalar.indexCast c1_i32_289
  let c0_i32_256 : BitVec 32 := 0#32
  let c0_i32_90 : BitVec 32 := 0#32
  let c1_i32_92 : BitVec 32 := 1#32
  let arg13 : BitVec 32 := Scf.iv c0_i32_90 c1_i32_92 k1_t2
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v443 : Index := Scalar.indexCast v373
  ![0, 0, 1, 1, v443.toNat]
def k1_off14 (k1_t2 : Fin k1_t2_loop.trips) : Fin 5 → Nat :=
  let c0_i32_290 : BitVec 32 := 0#32
  let v446 : Index := Scalar.indexCast c0_i32_290
  let c0_i32_291 : BitVec 32 := 0#32
  let v447 : Index := Scalar.indexCast c0_i32_291
  let c1_i32_292 : BitVec 32 := 1#32
  let v448 : Index := Scalar.indexCast c1_i32_292
  let c2_i32_293 : BitVec 32 := 2#32
  let v449 : Index := Scalar.indexCast c2_i32_293
  let c0_i32_256 : BitVec 32 := 0#32
  let c0_i32_90 : BitVec 32 := 0#32
  let c1_i32_92 : BitVec 32 := 1#32
  let arg13 : BitVec 32 := Scf.iv c0_i32_90 c1_i32_92 k1_t2
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v450 : Index := Scalar.indexCast v373
  ![0, 0, 1, 2, v450.toNat]
def k1_off15 (k1_t2 : Fin k1_t2_loop.trips) : Fin 5 → Nat :=
  let c0_i32_294 : BitVec 32 := 0#32
  let v453 : Index := Scalar.indexCast c0_i32_294
  let c0_i32_295 : BitVec 32 := 0#32
  let v454 : Index := Scalar.indexCast c0_i32_295
  let c1_i32_296 : BitVec 32 := 1#32
  let v455 : Index := Scalar.indexCast c1_i32_296
  let c3_i32_297 : BitVec 32 := 3#32
  let v456 : Index := Scalar.indexCast c3_i32_297
  let c0_i32_256 : BitVec 32 := 0#32
  let c0_i32_90 : BitVec 32 := 0#32
  let c1_i32_92 : BitVec 32 := 1#32
  let arg13 : BitVec 32 := Scf.iv c0_i32_90 c1_i32_92 k1_t2
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v457 : Index := Scalar.indexCast v373
  ![0, 0, 1, 3, v457.toNat]
def k1_off16 (k1_t2 : Fin k1_t2_loop.trips) : Fin 5 → Nat :=
  let c0_i32_298 : BitVec 32 := 0#32
  let v467 : Index := Scalar.indexCast c0_i32_298
  let c0_i32_299 : BitVec 32 := 0#32
  let v468 : Index := Scalar.indexCast c0_i32_299
  let c1_i32_300 : BitVec 32 := 1#32
  let v469 : Index := Scalar.indexCast c1_i32_300
  let c0_i32_301 : BitVec 32 := 0#32
  let v470 : Index := Scalar.indexCast c0_i32_301
  let c0_i32_256 : BitVec 32 := 0#32
  let c0_i32_90 : BitVec 32 := 0#32
  let c1_i32_92 : BitVec 32 := 1#32
  let arg13 : BitVec 32 := Scf.iv c0_i32_90 c1_i32_92 k1_t2
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v471 : Index := Scalar.indexCast v373
  ![0, 0, 1, 0, v471.toNat]
def k1_off17 (k1_t2 : Fin k1_t2_loop.trips) : Fin 5 → Nat :=
  let c0_i32_302 : BitVec 32 := 0#32
  let v482 : Index := Scalar.indexCast c0_i32_302
  let c0_i32_303 : BitVec 32 := 0#32
  let v483 : Index := Scalar.indexCast c0_i32_303
  let c1_i32_304 : BitVec 32 := 1#32
  let v484 : Index := Scalar.indexCast c1_i32_304
  let c1_i32_305 : BitVec 32 := 1#32
  let v485 : Index := Scalar.indexCast c1_i32_305
  let c0_i32_256 : BitVec 32 := 0#32
  let c0_i32_90 : BitVec 32 := 0#32
  let c1_i32_92 : BitVec 32 := 1#32
  let arg13 : BitVec 32 := Scf.iv c0_i32_90 c1_i32_92 k1_t2
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v486 : Index := Scalar.indexCast v373
  ![0, 0, 1, 1, v486.toNat]
@[reducible] def k1_t3_loop : Scf.Loop 32 :=
  let c0_i32_105 : BitVec 32 := 0#32
  let c64_i32_106 : BitVec 32 := 64#32
  let v119 : BitVec 32 := Scalar.addi c0_i32_105 c64_i32_106
  let c1_i32_107 : BitVec 32 := 1#32
  ⟨c0_i32_105, v119, c1_i32_107⟩
def k1_off18 (k1_t3 : Fin k1_t3_loop.trips) : Fin 5 → Nat :=
  let c0_i32_258 : BitVec 32 := 0#32
  let v374 : Index := Scalar.indexCast c0_i32_258
  let c1_i32_259 : BitVec 32 := 1#32
  let v375 : Index := Scalar.indexCast c1_i32_259
  let c0_i32_260 : BitVec 32 := 0#32
  let v376 : Index := Scalar.indexCast c0_i32_260
  let c0_i32_261 : BitVec 32 := 0#32
  let v377 : Index := Scalar.indexCast c0_i32_261
  let c0_i32_256 : BitVec 32 := 0#32
  let c0_i32_105 : BitVec 32 := 0#32
  let c1_i32_107 : BitVec 32 := 1#32
  let arg13 : BitVec 32 := Scf.iv c0_i32_105 c1_i32_107 k1_t3
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v378 : Index := Scalar.indexCast v373
  ![0, 1, 0, 0, v378.toNat]
def k1_off19 (k1_t3 : Fin k1_t3_loop.trips) : Fin 5 → Nat :=
  let c0_i32_262 : BitVec 32 := 0#32
  let v381 : Index := Scalar.indexCast c0_i32_262
  let c1_i32_263 : BitVec 32 := 1#32
  let v382 : Index := Scalar.indexCast c1_i32_263
  let c0_i32_264 : BitVec 32 := 0#32
  let v383 : Index := Scalar.indexCast c0_i32_264
  let c1_i32_265 : BitVec 32 := 1#32
  let v384 : Index := Scalar.indexCast c1_i32_265
  let c0_i32_256 : BitVec 32 := 0#32
  let c0_i32_105 : BitVec 32 := 0#32
  let c1_i32_107 : BitVec 32 := 1#32
  let arg13 : BitVec 32 := Scf.iv c0_i32_105 c1_i32_107 k1_t3
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v385 : Index := Scalar.indexCast v373
  ![0, 1, 0, 1, v385.toNat]
def k1_off20 (k1_t3 : Fin k1_t3_loop.trips) : Fin 5 → Nat :=
  let c0_i32_266 : BitVec 32 := 0#32
  let v388 : Index := Scalar.indexCast c0_i32_266
  let c1_i32_267 : BitVec 32 := 1#32
  let v389 : Index := Scalar.indexCast c1_i32_267
  let c0_i32_268 : BitVec 32 := 0#32
  let v390 : Index := Scalar.indexCast c0_i32_268
  let c2_i32_269 : BitVec 32 := 2#32
  let v391 : Index := Scalar.indexCast c2_i32_269
  let c0_i32_256 : BitVec 32 := 0#32
  let c0_i32_105 : BitVec 32 := 0#32
  let c1_i32_107 : BitVec 32 := 1#32
  let arg13 : BitVec 32 := Scf.iv c0_i32_105 c1_i32_107 k1_t3
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v392 : Index := Scalar.indexCast v373
  ![0, 1, 0, 2, v392.toNat]
def k1_off21 (k1_t3 : Fin k1_t3_loop.trips) : Fin 5 → Nat :=
  let c0_i32_270 : BitVec 32 := 0#32
  let v395 : Index := Scalar.indexCast c0_i32_270
  let c1_i32_271 : BitVec 32 := 1#32
  let v396 : Index := Scalar.indexCast c1_i32_271
  let c0_i32_272 : BitVec 32 := 0#32
  let v397 : Index := Scalar.indexCast c0_i32_272
  let c3_i32_273 : BitVec 32 := 3#32
  let v398 : Index := Scalar.indexCast c3_i32_273
  let c0_i32_256 : BitVec 32 := 0#32
  let c0_i32_105 : BitVec 32 := 0#32
  let c1_i32_107 : BitVec 32 := 1#32
  let arg13 : BitVec 32 := Scf.iv c0_i32_105 c1_i32_107 k1_t3
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v399 : Index := Scalar.indexCast v373
  ![0, 1, 0, 3, v399.toNat]
def k1_off22 (k1_t3 : Fin k1_t3_loop.trips) : Fin 5 → Nat :=
  let c0_i32_274 : BitVec 32 := 0#32
  let v409 : Index := Scalar.indexCast c0_i32_274
  let c1_i32_275 : BitVec 32 := 1#32
  let v410 : Index := Scalar.indexCast c1_i32_275
  let c0_i32_276 : BitVec 32 := 0#32
  let v411 : Index := Scalar.indexCast c0_i32_276
  let c0_i32_277 : BitVec 32 := 0#32
  let v412 : Index := Scalar.indexCast c0_i32_277
  let c0_i32_256 : BitVec 32 := 0#32
  let c0_i32_105 : BitVec 32 := 0#32
  let c1_i32_107 : BitVec 32 := 1#32
  let arg13 : BitVec 32 := Scf.iv c0_i32_105 c1_i32_107 k1_t3
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v413 : Index := Scalar.indexCast v373
  ![0, 1, 0, 0, v413.toNat]
def k1_off23 (k1_t3 : Fin k1_t3_loop.trips) : Fin 5 → Nat :=
  let c0_i32_278 : BitVec 32 := 0#32
  let v424 : Index := Scalar.indexCast c0_i32_278
  let c1_i32_279 : BitVec 32 := 1#32
  let v425 : Index := Scalar.indexCast c1_i32_279
  let c0_i32_280 : BitVec 32 := 0#32
  let v426 : Index := Scalar.indexCast c0_i32_280
  let c1_i32_281 : BitVec 32 := 1#32
  let v427 : Index := Scalar.indexCast c1_i32_281
  let c0_i32_256 : BitVec 32 := 0#32
  let c0_i32_105 : BitVec 32 := 0#32
  let c1_i32_107 : BitVec 32 := 1#32
  let arg13 : BitVec 32 := Scf.iv c0_i32_105 c1_i32_107 k1_t3
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v428 : Index := Scalar.indexCast v373
  ![0, 1, 0, 1, v428.toNat]
def k1_off24 (k1_t3 : Fin k1_t3_loop.trips) : Fin 5 → Nat :=
  let c0_i32_282 : BitVec 32 := 0#32
  let v432 : Index := Scalar.indexCast c0_i32_282
  let c1_i32_283 : BitVec 32 := 1#32
  let v433 : Index := Scalar.indexCast c1_i32_283
  let c1_i32_284 : BitVec 32 := 1#32
  let v434 : Index := Scalar.indexCast c1_i32_284
  let c0_i32_285 : BitVec 32 := 0#32
  let v435 : Index := Scalar.indexCast c0_i32_285
  let c0_i32_256 : BitVec 32 := 0#32
  let c0_i32_105 : BitVec 32 := 0#32
  let c1_i32_107 : BitVec 32 := 1#32
  let arg13 : BitVec 32 := Scf.iv c0_i32_105 c1_i32_107 k1_t3
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v436 : Index := Scalar.indexCast v373
  ![0, 1, 1, 0, v436.toNat]
def k1_off25 (k1_t3 : Fin k1_t3_loop.trips) : Fin 5 → Nat :=
  let c0_i32_286 : BitVec 32 := 0#32
  let v439 : Index := Scalar.indexCast c0_i32_286
  let c1_i32_287 : BitVec 32 := 1#32
  let v440 : Index := Scalar.indexCast c1_i32_287
  let c1_i32_288 : BitVec 32 := 1#32
  let v441 : Index := Scalar.indexCast c1_i32_288
  let c1_i32_289 : BitVec 32 := 1#32
  let v442 : Index := Scalar.indexCast c1_i32_289
  let c0_i32_256 : BitVec 32 := 0#32
  let c0_i32_105 : BitVec 32 := 0#32
  let c1_i32_107 : BitVec 32 := 1#32
  let arg13 : BitVec 32 := Scf.iv c0_i32_105 c1_i32_107 k1_t3
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v443 : Index := Scalar.indexCast v373
  ![0, 1, 1, 1, v443.toNat]
def k1_off26 (k1_t3 : Fin k1_t3_loop.trips) : Fin 5 → Nat :=
  let c0_i32_290 : BitVec 32 := 0#32
  let v446 : Index := Scalar.indexCast c0_i32_290
  let c1_i32_291 : BitVec 32 := 1#32
  let v447 : Index := Scalar.indexCast c1_i32_291
  let c1_i32_292 : BitVec 32 := 1#32
  let v448 : Index := Scalar.indexCast c1_i32_292
  let c2_i32_293 : BitVec 32 := 2#32
  let v449 : Index := Scalar.indexCast c2_i32_293
  let c0_i32_256 : BitVec 32 := 0#32
  let c0_i32_105 : BitVec 32 := 0#32
  let c1_i32_107 : BitVec 32 := 1#32
  let arg13 : BitVec 32 := Scf.iv c0_i32_105 c1_i32_107 k1_t3
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v450 : Index := Scalar.indexCast v373
  ![0, 1, 1, 2, v450.toNat]
def k1_off27 (k1_t3 : Fin k1_t3_loop.trips) : Fin 5 → Nat :=
  let c0_i32_294 : BitVec 32 := 0#32
  let v453 : Index := Scalar.indexCast c0_i32_294
  let c1_i32_295 : BitVec 32 := 1#32
  let v454 : Index := Scalar.indexCast c1_i32_295
  let c1_i32_296 : BitVec 32 := 1#32
  let v455 : Index := Scalar.indexCast c1_i32_296
  let c3_i32_297 : BitVec 32 := 3#32
  let v456 : Index := Scalar.indexCast c3_i32_297
  let c0_i32_256 : BitVec 32 := 0#32
  let c0_i32_105 : BitVec 32 := 0#32
  let c1_i32_107 : BitVec 32 := 1#32
  let arg13 : BitVec 32 := Scf.iv c0_i32_105 c1_i32_107 k1_t3
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v457 : Index := Scalar.indexCast v373
  ![0, 1, 1, 3, v457.toNat]
def k1_off28 (k1_t3 : Fin k1_t3_loop.trips) : Fin 5 → Nat :=
  let c0_i32_298 : BitVec 32 := 0#32
  let v467 : Index := Scalar.indexCast c0_i32_298
  let c1_i32_299 : BitVec 32 := 1#32
  let v468 : Index := Scalar.indexCast c1_i32_299
  let c1_i32_300 : BitVec 32 := 1#32
  let v469 : Index := Scalar.indexCast c1_i32_300
  let c0_i32_301 : BitVec 32 := 0#32
  let v470 : Index := Scalar.indexCast c0_i32_301
  let c0_i32_256 : BitVec 32 := 0#32
  let c0_i32_105 : BitVec 32 := 0#32
  let c1_i32_107 : BitVec 32 := 1#32
  let arg13 : BitVec 32 := Scf.iv c0_i32_105 c1_i32_107 k1_t3
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v471 : Index := Scalar.indexCast v373
  ![0, 1, 1, 0, v471.toNat]
def k1_off29 (k1_t3 : Fin k1_t3_loop.trips) : Fin 5 → Nat :=
  let c0_i32_302 : BitVec 32 := 0#32
  let v482 : Index := Scalar.indexCast c0_i32_302
  let c1_i32_303 : BitVec 32 := 1#32
  let v483 : Index := Scalar.indexCast c1_i32_303
  let c1_i32_304 : BitVec 32 := 1#32
  let v484 : Index := Scalar.indexCast c1_i32_304
  let c1_i32_305 : BitVec 32 := 1#32
  let v485 : Index := Scalar.indexCast c1_i32_305
  let c0_i32_256 : BitVec 32 := 0#32
  let c0_i32_105 : BitVec 32 := 0#32
  let c1_i32_107 : BitVec 32 := 1#32
  let arg13 : BitVec 32 := Scf.iv c0_i32_105 c1_i32_107 k1_t3
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v486 : Index := Scalar.indexCast v373
  ![0, 1, 1, 1, v486.toNat]
@[reducible] def k1_t4_loop : Scf.Loop 32 :=
  let c0_i32_120 : BitVec 32 := 0#32
  let c64_i32_121 : BitVec 32 := 64#32
  let v155 : BitVec 32 := Scalar.addi c0_i32_120 c64_i32_121
  let c1_i32_122 : BitVec 32 := 1#32
  ⟨c0_i32_120, v155, c1_i32_122⟩
def k1_off30 (k1_t4 : Fin k1_t4_loop.trips) : Fin 5 → Nat :=
  let c0_i32_258 : BitVec 32 := 0#32
  let v374 : Index := Scalar.indexCast c0_i32_258
  let c2_i32_259 : BitVec 32 := 2#32
  let v375 : Index := Scalar.indexCast c2_i32_259
  let c0_i32_260 : BitVec 32 := 0#32
  let v376 : Index := Scalar.indexCast c0_i32_260
  let c0_i32_261 : BitVec 32 := 0#32
  let v377 : Index := Scalar.indexCast c0_i32_261
  let c0_i32_256 : BitVec 32 := 0#32
  let c0_i32_120 : BitVec 32 := 0#32
  let c1_i32_122 : BitVec 32 := 1#32
  let arg13 : BitVec 32 := Scf.iv c0_i32_120 c1_i32_122 k1_t4
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v378 : Index := Scalar.indexCast v373
  ![0, 2, 0, 0, v378.toNat]
def k1_off31 (k1_t4 : Fin k1_t4_loop.trips) : Fin 5 → Nat :=
  let c0_i32_262 : BitVec 32 := 0#32
  let v381 : Index := Scalar.indexCast c0_i32_262
  let c2_i32_263 : BitVec 32 := 2#32
  let v382 : Index := Scalar.indexCast c2_i32_263
  let c0_i32_264 : BitVec 32 := 0#32
  let v383 : Index := Scalar.indexCast c0_i32_264
  let c1_i32_265 : BitVec 32 := 1#32
  let v384 : Index := Scalar.indexCast c1_i32_265
  let c0_i32_256 : BitVec 32 := 0#32
  let c0_i32_120 : BitVec 32 := 0#32
  let c1_i32_122 : BitVec 32 := 1#32
  let arg13 : BitVec 32 := Scf.iv c0_i32_120 c1_i32_122 k1_t4
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v385 : Index := Scalar.indexCast v373
  ![0, 2, 0, 1, v385.toNat]
def k1_off32 (k1_t4 : Fin k1_t4_loop.trips) : Fin 5 → Nat :=
  let c0_i32_266 : BitVec 32 := 0#32
  let v388 : Index := Scalar.indexCast c0_i32_266
  let c2_i32_267 : BitVec 32 := 2#32
  let v389 : Index := Scalar.indexCast c2_i32_267
  let c0_i32_268 : BitVec 32 := 0#32
  let v390 : Index := Scalar.indexCast c0_i32_268
  let c2_i32_269 : BitVec 32 := 2#32
  let v391 : Index := Scalar.indexCast c2_i32_269
  let c0_i32_256 : BitVec 32 := 0#32
  let c0_i32_120 : BitVec 32 := 0#32
  let c1_i32_122 : BitVec 32 := 1#32
  let arg13 : BitVec 32 := Scf.iv c0_i32_120 c1_i32_122 k1_t4
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v392 : Index := Scalar.indexCast v373
  ![0, 2, 0, 2, v392.toNat]
def k1_off33 (k1_t4 : Fin k1_t4_loop.trips) : Fin 5 → Nat :=
  let c0_i32_270 : BitVec 32 := 0#32
  let v395 : Index := Scalar.indexCast c0_i32_270
  let c2_i32_271 : BitVec 32 := 2#32
  let v396 : Index := Scalar.indexCast c2_i32_271
  let c0_i32_272 : BitVec 32 := 0#32
  let v397 : Index := Scalar.indexCast c0_i32_272
  let c3_i32_273 : BitVec 32 := 3#32
  let v398 : Index := Scalar.indexCast c3_i32_273
  let c0_i32_256 : BitVec 32 := 0#32
  let c0_i32_120 : BitVec 32 := 0#32
  let c1_i32_122 : BitVec 32 := 1#32
  let arg13 : BitVec 32 := Scf.iv c0_i32_120 c1_i32_122 k1_t4
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v399 : Index := Scalar.indexCast v373
  ![0, 2, 0, 3, v399.toNat]
def k1_off34 (k1_t4 : Fin k1_t4_loop.trips) : Fin 5 → Nat :=
  let c0_i32_274 : BitVec 32 := 0#32
  let v409 : Index := Scalar.indexCast c0_i32_274
  let c2_i32_275 : BitVec 32 := 2#32
  let v410 : Index := Scalar.indexCast c2_i32_275
  let c0_i32_276 : BitVec 32 := 0#32
  let v411 : Index := Scalar.indexCast c0_i32_276
  let c0_i32_277 : BitVec 32 := 0#32
  let v412 : Index := Scalar.indexCast c0_i32_277
  let c0_i32_256 : BitVec 32 := 0#32
  let c0_i32_120 : BitVec 32 := 0#32
  let c1_i32_122 : BitVec 32 := 1#32
  let arg13 : BitVec 32 := Scf.iv c0_i32_120 c1_i32_122 k1_t4
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v413 : Index := Scalar.indexCast v373
  ![0, 2, 0, 0, v413.toNat]
def k1_off35 (k1_t4 : Fin k1_t4_loop.trips) : Fin 5 → Nat :=
  let c0_i32_278 : BitVec 32 := 0#32
  let v424 : Index := Scalar.indexCast c0_i32_278
  let c2_i32_279 : BitVec 32 := 2#32
  let v425 : Index := Scalar.indexCast c2_i32_279
  let c0_i32_280 : BitVec 32 := 0#32
  let v426 : Index := Scalar.indexCast c0_i32_280
  let c1_i32_281 : BitVec 32 := 1#32
  let v427 : Index := Scalar.indexCast c1_i32_281
  let c0_i32_256 : BitVec 32 := 0#32
  let c0_i32_120 : BitVec 32 := 0#32
  let c1_i32_122 : BitVec 32 := 1#32
  let arg13 : BitVec 32 := Scf.iv c0_i32_120 c1_i32_122 k1_t4
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v428 : Index := Scalar.indexCast v373
  ![0, 2, 0, 1, v428.toNat]
def k1_off36 (k1_t4 : Fin k1_t4_loop.trips) : Fin 5 → Nat :=
  let c0_i32_282 : BitVec 32 := 0#32
  let v432 : Index := Scalar.indexCast c0_i32_282
  let c2_i32_283 : BitVec 32 := 2#32
  let v433 : Index := Scalar.indexCast c2_i32_283
  let c1_i32_284 : BitVec 32 := 1#32
  let v434 : Index := Scalar.indexCast c1_i32_284
  let c0_i32_285 : BitVec 32 := 0#32
  let v435 : Index := Scalar.indexCast c0_i32_285
  let c0_i32_256 : BitVec 32 := 0#32
  let c0_i32_120 : BitVec 32 := 0#32
  let c1_i32_122 : BitVec 32 := 1#32
  let arg13 : BitVec 32 := Scf.iv c0_i32_120 c1_i32_122 k1_t4
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v436 : Index := Scalar.indexCast v373
  ![0, 2, 1, 0, v436.toNat]
def k1_off37 (k1_t4 : Fin k1_t4_loop.trips) : Fin 5 → Nat :=
  let c0_i32_286 : BitVec 32 := 0#32
  let v439 : Index := Scalar.indexCast c0_i32_286
  let c2_i32_287 : BitVec 32 := 2#32
  let v440 : Index := Scalar.indexCast c2_i32_287
  let c1_i32_288 : BitVec 32 := 1#32
  let v441 : Index := Scalar.indexCast c1_i32_288
  let c1_i32_289 : BitVec 32 := 1#32
  let v442 : Index := Scalar.indexCast c1_i32_289
  let c0_i32_256 : BitVec 32 := 0#32
  let c0_i32_120 : BitVec 32 := 0#32
  let c1_i32_122 : BitVec 32 := 1#32
  let arg13 : BitVec 32 := Scf.iv c0_i32_120 c1_i32_122 k1_t4
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v443 : Index := Scalar.indexCast v373
  ![0, 2, 1, 1, v443.toNat]
def k1_off38 (k1_t4 : Fin k1_t4_loop.trips) : Fin 5 → Nat :=
  let c0_i32_290 : BitVec 32 := 0#32
  let v446 : Index := Scalar.indexCast c0_i32_290
  let c2_i32_291 : BitVec 32 := 2#32
  let v447 : Index := Scalar.indexCast c2_i32_291
  let c1_i32_292 : BitVec 32 := 1#32
  let v448 : Index := Scalar.indexCast c1_i32_292
  let c2_i32_293 : BitVec 32 := 2#32
  let v449 : Index := Scalar.indexCast c2_i32_293
  let c0_i32_256 : BitVec 32 := 0#32
  let c0_i32_120 : BitVec 32 := 0#32
  let c1_i32_122 : BitVec 32 := 1#32
  let arg13 : BitVec 32 := Scf.iv c0_i32_120 c1_i32_122 k1_t4
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v450 : Index := Scalar.indexCast v373
  ![0, 2, 1, 2, v450.toNat]
def k1_off39 (k1_t4 : Fin k1_t4_loop.trips) : Fin 5 → Nat :=
  let c0_i32_294 : BitVec 32 := 0#32
  let v453 : Index := Scalar.indexCast c0_i32_294
  let c2_i32_295 : BitVec 32 := 2#32
  let v454 : Index := Scalar.indexCast c2_i32_295
  let c1_i32_296 : BitVec 32 := 1#32
  let v455 : Index := Scalar.indexCast c1_i32_296
  let c3_i32_297 : BitVec 32 := 3#32
  let v456 : Index := Scalar.indexCast c3_i32_297
  let c0_i32_256 : BitVec 32 := 0#32
  let c0_i32_120 : BitVec 32 := 0#32
  let c1_i32_122 : BitVec 32 := 1#32
  let arg13 : BitVec 32 := Scf.iv c0_i32_120 c1_i32_122 k1_t4
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v457 : Index := Scalar.indexCast v373
  ![0, 2, 1, 3, v457.toNat]
def k1_off40 (k1_t4 : Fin k1_t4_loop.trips) : Fin 5 → Nat :=
  let c0_i32_298 : BitVec 32 := 0#32
  let v467 : Index := Scalar.indexCast c0_i32_298
  let c2_i32_299 : BitVec 32 := 2#32
  let v468 : Index := Scalar.indexCast c2_i32_299
  let c1_i32_300 : BitVec 32 := 1#32
  let v469 : Index := Scalar.indexCast c1_i32_300
  let c0_i32_301 : BitVec 32 := 0#32
  let v470 : Index := Scalar.indexCast c0_i32_301
  let c0_i32_256 : BitVec 32 := 0#32
  let c0_i32_120 : BitVec 32 := 0#32
  let c1_i32_122 : BitVec 32 := 1#32
  let arg13 : BitVec 32 := Scf.iv c0_i32_120 c1_i32_122 k1_t4
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v471 : Index := Scalar.indexCast v373
  ![0, 2, 1, 0, v471.toNat]
def k1_off41 (k1_t4 : Fin k1_t4_loop.trips) : Fin 5 → Nat :=
  let c0_i32_302 : BitVec 32 := 0#32
  let v482 : Index := Scalar.indexCast c0_i32_302
  let c2_i32_303 : BitVec 32 := 2#32
  let v483 : Index := Scalar.indexCast c2_i32_303
  let c1_i32_304 : BitVec 32 := 1#32
  let v484 : Index := Scalar.indexCast c1_i32_304
  let c1_i32_305 : BitVec 32 := 1#32
  let v485 : Index := Scalar.indexCast c1_i32_305
  let c0_i32_256 : BitVec 32 := 0#32
  let c0_i32_120 : BitVec 32 := 0#32
  let c1_i32_122 : BitVec 32 := 1#32
  let arg13 : BitVec 32 := Scf.iv c0_i32_120 c1_i32_122 k1_t4
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v486 : Index := Scalar.indexCast v373
  ![0, 2, 1, 1, v486.toNat]
@[reducible] def k1_t5_loop : Scf.Loop 32 :=
  let c0_i32_134 : BitVec 32 := 0#32
  let c64_i32_135 : BitVec 32 := 64#32
  let v191 : BitVec 32 := Scalar.addi c0_i32_134 c64_i32_135
  let c1_i32_136 : BitVec 32 := 1#32
  ⟨c0_i32_134, v191, c1_i32_136⟩
def k1_off42 (k1_t5 : Fin k1_t5_loop.trips) : Fin 5 → Nat :=
  let c0_i32_258 : BitVec 32 := 0#32
  let v374 : Index := Scalar.indexCast c0_i32_258
  let c3_i32_259 : BitVec 32 := 3#32
  let v375 : Index := Scalar.indexCast c3_i32_259
  let c0_i32_260 : BitVec 32 := 0#32
  let v376 : Index := Scalar.indexCast c0_i32_260
  let c0_i32_261 : BitVec 32 := 0#32
  let v377 : Index := Scalar.indexCast c0_i32_261
  let c0_i32_256 : BitVec 32 := 0#32
  let c0_i32_134 : BitVec 32 := 0#32
  let c1_i32_136 : BitVec 32 := 1#32
  let arg13 : BitVec 32 := Scf.iv c0_i32_134 c1_i32_136 k1_t5
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v378 : Index := Scalar.indexCast v373
  ![0, 3, 0, 0, v378.toNat]
def k1_off43 (k1_t5 : Fin k1_t5_loop.trips) : Fin 5 → Nat :=
  let c0_i32_262 : BitVec 32 := 0#32
  let v381 : Index := Scalar.indexCast c0_i32_262
  let c3_i32_263 : BitVec 32 := 3#32
  let v382 : Index := Scalar.indexCast c3_i32_263
  let c0_i32_264 : BitVec 32 := 0#32
  let v383 : Index := Scalar.indexCast c0_i32_264
  let c1_i32_265 : BitVec 32 := 1#32
  let v384 : Index := Scalar.indexCast c1_i32_265
  let c0_i32_256 : BitVec 32 := 0#32
  let c0_i32_134 : BitVec 32 := 0#32
  let c1_i32_136 : BitVec 32 := 1#32
  let arg13 : BitVec 32 := Scf.iv c0_i32_134 c1_i32_136 k1_t5
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v385 : Index := Scalar.indexCast v373
  ![0, 3, 0, 1, v385.toNat]
def k1_off44 (k1_t5 : Fin k1_t5_loop.trips) : Fin 5 → Nat :=
  let c0_i32_266 : BitVec 32 := 0#32
  let v388 : Index := Scalar.indexCast c0_i32_266
  let c3_i32_267 : BitVec 32 := 3#32
  let v389 : Index := Scalar.indexCast c3_i32_267
  let c0_i32_268 : BitVec 32 := 0#32
  let v390 : Index := Scalar.indexCast c0_i32_268
  let c2_i32_269 : BitVec 32 := 2#32
  let v391 : Index := Scalar.indexCast c2_i32_269
  let c0_i32_256 : BitVec 32 := 0#32
  let c0_i32_134 : BitVec 32 := 0#32
  let c1_i32_136 : BitVec 32 := 1#32
  let arg13 : BitVec 32 := Scf.iv c0_i32_134 c1_i32_136 k1_t5
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v392 : Index := Scalar.indexCast v373
  ![0, 3, 0, 2, v392.toNat]
def k1_off45 (k1_t5 : Fin k1_t5_loop.trips) : Fin 5 → Nat :=
  let c0_i32_270 : BitVec 32 := 0#32
  let v395 : Index := Scalar.indexCast c0_i32_270
  let c3_i32_271 : BitVec 32 := 3#32
  let v396 : Index := Scalar.indexCast c3_i32_271
  let c0_i32_272 : BitVec 32 := 0#32
  let v397 : Index := Scalar.indexCast c0_i32_272
  let c3_i32_273 : BitVec 32 := 3#32
  let v398 : Index := Scalar.indexCast c3_i32_273
  let c0_i32_256 : BitVec 32 := 0#32
  let c0_i32_134 : BitVec 32 := 0#32
  let c1_i32_136 : BitVec 32 := 1#32
  let arg13 : BitVec 32 := Scf.iv c0_i32_134 c1_i32_136 k1_t5
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v399 : Index := Scalar.indexCast v373
  ![0, 3, 0, 3, v399.toNat]
def k1_off46 (k1_t5 : Fin k1_t5_loop.trips) : Fin 5 → Nat :=
  let c0_i32_274 : BitVec 32 := 0#32
  let v409 : Index := Scalar.indexCast c0_i32_274
  let c3_i32_275 : BitVec 32 := 3#32
  let v410 : Index := Scalar.indexCast c3_i32_275
  let c0_i32_276 : BitVec 32 := 0#32
  let v411 : Index := Scalar.indexCast c0_i32_276
  let c0_i32_277 : BitVec 32 := 0#32
  let v412 : Index := Scalar.indexCast c0_i32_277
  let c0_i32_256 : BitVec 32 := 0#32
  let c0_i32_134 : BitVec 32 := 0#32
  let c1_i32_136 : BitVec 32 := 1#32
  let arg13 : BitVec 32 := Scf.iv c0_i32_134 c1_i32_136 k1_t5
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v413 : Index := Scalar.indexCast v373
  ![0, 3, 0, 0, v413.toNat]
def k1_off47 (k1_t5 : Fin k1_t5_loop.trips) : Fin 5 → Nat :=
  let c0_i32_278 : BitVec 32 := 0#32
  let v424 : Index := Scalar.indexCast c0_i32_278
  let c3_i32_279 : BitVec 32 := 3#32
  let v425 : Index := Scalar.indexCast c3_i32_279
  let c0_i32_280 : BitVec 32 := 0#32
  let v426 : Index := Scalar.indexCast c0_i32_280
  let c1_i32_281 : BitVec 32 := 1#32
  let v427 : Index := Scalar.indexCast c1_i32_281
  let c0_i32_256 : BitVec 32 := 0#32
  let c0_i32_134 : BitVec 32 := 0#32
  let c1_i32_136 : BitVec 32 := 1#32
  let arg13 : BitVec 32 := Scf.iv c0_i32_134 c1_i32_136 k1_t5
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v428 : Index := Scalar.indexCast v373
  ![0, 3, 0, 1, v428.toNat]
def k1_off48 (k1_t5 : Fin k1_t5_loop.trips) : Fin 5 → Nat :=
  let c0_i32_282 : BitVec 32 := 0#32
  let v432 : Index := Scalar.indexCast c0_i32_282
  let c3_i32_283 : BitVec 32 := 3#32
  let v433 : Index := Scalar.indexCast c3_i32_283
  let c1_i32_284 : BitVec 32 := 1#32
  let v434 : Index := Scalar.indexCast c1_i32_284
  let c0_i32_285 : BitVec 32 := 0#32
  let v435 : Index := Scalar.indexCast c0_i32_285
  let c0_i32_256 : BitVec 32 := 0#32
  let c0_i32_134 : BitVec 32 := 0#32
  let c1_i32_136 : BitVec 32 := 1#32
  let arg13 : BitVec 32 := Scf.iv c0_i32_134 c1_i32_136 k1_t5
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v436 : Index := Scalar.indexCast v373
  ![0, 3, 1, 0, v436.toNat]
def k1_off49 (k1_t5 : Fin k1_t5_loop.trips) : Fin 5 → Nat :=
  let c0_i32_286 : BitVec 32 := 0#32
  let v439 : Index := Scalar.indexCast c0_i32_286
  let c3_i32_287 : BitVec 32 := 3#32
  let v440 : Index := Scalar.indexCast c3_i32_287
  let c1_i32_288 : BitVec 32 := 1#32
  let v441 : Index := Scalar.indexCast c1_i32_288
  let c1_i32_289 : BitVec 32 := 1#32
  let v442 : Index := Scalar.indexCast c1_i32_289
  let c0_i32_256 : BitVec 32 := 0#32
  let c0_i32_134 : BitVec 32 := 0#32
  let c1_i32_136 : BitVec 32 := 1#32
  let arg13 : BitVec 32 := Scf.iv c0_i32_134 c1_i32_136 k1_t5
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v443 : Index := Scalar.indexCast v373
  ![0, 3, 1, 1, v443.toNat]
def k1_off50 (k1_t5 : Fin k1_t5_loop.trips) : Fin 5 → Nat :=
  let c0_i32_290 : BitVec 32 := 0#32
  let v446 : Index := Scalar.indexCast c0_i32_290
  let c3_i32_291 : BitVec 32 := 3#32
  let v447 : Index := Scalar.indexCast c3_i32_291
  let c1_i32_292 : BitVec 32 := 1#32
  let v448 : Index := Scalar.indexCast c1_i32_292
  let c2_i32_293 : BitVec 32 := 2#32
  let v449 : Index := Scalar.indexCast c2_i32_293
  let c0_i32_256 : BitVec 32 := 0#32
  let c0_i32_134 : BitVec 32 := 0#32
  let c1_i32_136 : BitVec 32 := 1#32
  let arg13 : BitVec 32 := Scf.iv c0_i32_134 c1_i32_136 k1_t5
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v450 : Index := Scalar.indexCast v373
  ![0, 3, 1, 2, v450.toNat]
def k1_off51 (k1_t5 : Fin k1_t5_loop.trips) : Fin 5 → Nat :=
  let c0_i32_294 : BitVec 32 := 0#32
  let v453 : Index := Scalar.indexCast c0_i32_294
  let c3_i32_295 : BitVec 32 := 3#32
  let v454 : Index := Scalar.indexCast c3_i32_295
  let c1_i32_296 : BitVec 32 := 1#32
  let v455 : Index := Scalar.indexCast c1_i32_296
  let c3_i32_297 : BitVec 32 := 3#32
  let v456 : Index := Scalar.indexCast c3_i32_297
  let c0_i32_256 : BitVec 32 := 0#32
  let c0_i32_134 : BitVec 32 := 0#32
  let c1_i32_136 : BitVec 32 := 1#32
  let arg13 : BitVec 32 := Scf.iv c0_i32_134 c1_i32_136 k1_t5
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v457 : Index := Scalar.indexCast v373
  ![0, 3, 1, 3, v457.toNat]
def k1_off52 (k1_t5 : Fin k1_t5_loop.trips) : Fin 5 → Nat :=
  let c0_i32_298 : BitVec 32 := 0#32
  let v467 : Index := Scalar.indexCast c0_i32_298
  let c3_i32_299 : BitVec 32 := 3#32
  let v468 : Index := Scalar.indexCast c3_i32_299
  let c1_i32_300 : BitVec 32 := 1#32
  let v469 : Index := Scalar.indexCast c1_i32_300
  let c0_i32_301 : BitVec 32 := 0#32
  let v470 : Index := Scalar.indexCast c0_i32_301
  let c0_i32_256 : BitVec 32 := 0#32
  let c0_i32_134 : BitVec 32 := 0#32
  let c1_i32_136 : BitVec 32 := 1#32
  let arg13 : BitVec 32 := Scf.iv c0_i32_134 c1_i32_136 k1_t5
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v471 : Index := Scalar.indexCast v373
  ![0, 3, 1, 0, v471.toNat]
def k1_off53 (k1_t5 : Fin k1_t5_loop.trips) : Fin 5 → Nat :=
  let c0_i32_302 : BitVec 32 := 0#32
  let v482 : Index := Scalar.indexCast c0_i32_302
  let c3_i32_303 : BitVec 32 := 3#32
  let v483 : Index := Scalar.indexCast c3_i32_303
  let c1_i32_304 : BitVec 32 := 1#32
  let v484 : Index := Scalar.indexCast c1_i32_304
  let c1_i32_305 : BitVec 32 := 1#32
  let v485 : Index := Scalar.indexCast c1_i32_305
  let c0_i32_256 : BitVec 32 := 0#32
  let c0_i32_134 : BitVec 32 := 0#32
  let c1_i32_136 : BitVec 32 := 1#32
  let arg13 : BitVec 32 := Scf.iv c0_i32_134 c1_i32_136 k1_t5
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v486 : Index := Scalar.indexCast v373
  ![0, 3, 1, 1, v486.toNat]
def k1_off54 (i : grid1.Coords) (k1_t1 : Fin k1_t1_loop.trips) (c0_i32_65 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_31 : BitVec 32 := 0#32
  let c1_i32_32 : BitVec 32 := 1#32
  let arg12 : BitVec 32 := Scf.iv c0_i32_31 c1_i32_32 k1_t1
  let c2_i32_64 : BitVec 32 := 2#32
  let v33 : BitVec 32 := Scalar.muli arg12 c2_i32_64
  let v34 : BitVec 32 := Scalar.addi v33 c0_i32_65
  let c4_i32_66 : BitVec 32 := 4#32
  let v35 : BitVec 32 := Scalar.muli v34 c4_i32_66
  let v36 : BitVec 32 := Scalar.addi v2 v35
  let c0_i32_143 : BitVec 32 := 0#32
  let c0_i32_144 : BitVec 32 := 0#32
  let c0_i32_145 : BitVec 32 := 0#32
  ![v36.toNat, 0, 0, 0]
def k1_cond2 (k1_t1 : Fin k1_t1_loop.trips) : BitVec 1 :=
  let c0_i32_31 : BitVec 32 := 0#32
  let c1_i32_32 : BitVec 32 := 1#32
  let arg12 : BitVec 32 := Scf.iv c0_i32_31 c1_i32_32 k1_t1
  let c2_i32_64 : BitVec 32 := 2#32
  let v33 : BitVec 32 := Scalar.muli arg12 c2_i32_64
  let c0_i32_65 : BitVec 32 := 0#32
  let v34 : BitVec 32 := Scalar.addi v33 c0_i32_65
  let c2_i32_153 : BitVec 32 := 2#32
  let v198 : BitVec 32 := Scalar.addi v34 c2_i32_153
  let c32_i32_154 : BitVec 32 := 32#32
  let v199 : BitVec 1 := Scalar.cmpi .slt v198 c32_i32_154
  let v200 : BitVec 32 := Scalar.extui v199
  let c0_i32_155 : BitVec 32 := 0#32
  let v201 : BitVec 1 := Scalar.cmpi .ne v200 c0_i32_155
  v201

def k1_off55 (i : grid1.Coords) (k1_t1 : Fin k1_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_31 : BitVec 32 := 0#32
  let c1_i32_32 : BitVec 32 := 1#32
  let arg12 : BitVec 32 := Scf.iv c0_i32_31 c1_i32_32 k1_t1
  let c2_i32_64 : BitVec 32 := 2#32
  let v33 : BitVec 32 := Scalar.muli arg12 c2_i32_64
  let c0_i32_65 : BitVec 32 := 0#32
  let v34 : BitVec 32 := Scalar.addi v33 c0_i32_65
  let c2_i32_255 : BitVec 32 := 2#32
  let v371 : BitVec 32 := Scalar.addi v34 c2_i32_255
  let c4_i32_256 : BitVec 32 := 4#32
  let v372 : BitVec 32 := Scalar.muli v371 c4_i32_256
  let v373 : BitVec 32 := Scalar.addi v2 v372
  let c0_i32_262 : BitVec 32 := 0#32
  let c0_i32_263 : BitVec 32 := 0#32
  let c0_i32_264 : BitVec 32 := 0#32
  ![v373.toNat, 0, 0, 0]
def k1_cond3 (k1_t1 : Fin k1_t1_loop.trips) : BitVec 1 :=
  let c0_i32_31 : BitVec 32 := 0#32
  let c1_i32_32 : BitVec 32 := 1#32
  let arg12 : BitVec 32 := Scf.iv c0_i32_31 c1_i32_32 k1_t1
  let c2_i32_156 : BitVec 32 := 2#32
  let v202 : BitVec 32 := Scalar.muli arg12 c2_i32_156
  let c1_i32_157 : BitVec 32 := 1#32
  let v203 : BitVec 32 := Scalar.addi v202 c1_i32_157
  let c2_i32_175 : BitVec 32 := 2#32
  let v214 : BitVec 1 := Scalar.cmpi .sge v203 c2_i32_175
  let v215 : BitVec 32 := Scalar.extui v214
  let c0_i32_176 : BitVec 32 := 0#32
  let v216 : BitVec 1 := Scalar.cmpi .ne v215 c0_i32_176
  v216

def k1_off56 (i : grid1.Coords) (k1_t1 : Fin k1_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_31 : BitVec 32 := 0#32
  let c1_i32_32 : BitVec 32 := 1#32
  let arg12 : BitVec 32 := Scf.iv c0_i32_31 c1_i32_32 k1_t1
  let c2_i32_156 : BitVec 32 := 2#32
  let v202 : BitVec 32 := Scalar.muli arg12 c2_i32_156
  let c1_i32_157 : BitVec 32 := 1#32
  let v203 : BitVec 32 := Scalar.addi v202 c1_i32_157
  let c4_i32_158 : BitVec 32 := 4#32
  let v204 : BitVec 32 := Scalar.muli v203 c4_i32_158
  let v205 : BitVec 32 := Scalar.addi v2 v204
  let c8_i32 : BitVec 32 := 8#32
  let v371 : BitVec 32 := Scalar.subi v205 c8_i32
  let c0_i32_260 : BitVec 32 := 0#32
  let c0_i32_261 : BitVec 32 := 0#32
  let c0_i32_262 : BitVec 32 := 0#32
  ![v371.toNat, 0, 0, 0]
@[reducible] def k1_t6_loop : Scf.Loop 32 :=
  let c0_i32_188 : BitVec 32 := 0#32
  let c64_i32_189 : BitVec 32 := 64#32
  let v252 : BitVec 32 := Scalar.addi c0_i32_188 c64_i32_189
  let c1_i32_190 : BitVec 32 := 1#32
  ⟨c0_i32_188, v252, c1_i32_190⟩
def k1_off57 (k1_t6 : Fin k1_t6_loop.trips) : Fin 5 → Nat :=
  let c1_i32_258 : BitVec 32 := 1#32
  let v374 : Index := Scalar.indexCast c1_i32_258
  let c0_i32_259 : BitVec 32 := 0#32
  let v375 : Index := Scalar.indexCast c0_i32_259
  let c0_i32_260 : BitVec 32 := 0#32
  let v376 : Index := Scalar.indexCast c0_i32_260
  let c0_i32_261 : BitVec 32 := 0#32
  let v377 : Index := Scalar.indexCast c0_i32_261
  let c0_i32_256 : BitVec 32 := 0#32
  let c0_i32_188 : BitVec 32 := 0#32
  let c1_i32_190 : BitVec 32 := 1#32
  let arg13 : BitVec 32 := Scf.iv c0_i32_188 c1_i32_190 k1_t6
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v378 : Index := Scalar.indexCast v373
  ![1, 0, 0, 0, v378.toNat]
def k1_off58 (k1_t6 : Fin k1_t6_loop.trips) : Fin 5 → Nat :=
  let c1_i32_262 : BitVec 32 := 1#32
  let v381 : Index := Scalar.indexCast c1_i32_262
  let c0_i32_263 : BitVec 32 := 0#32
  let v382 : Index := Scalar.indexCast c0_i32_263
  let c0_i32_264 : BitVec 32 := 0#32
  let v383 : Index := Scalar.indexCast c0_i32_264
  let c1_i32_265 : BitVec 32 := 1#32
  let v384 : Index := Scalar.indexCast c1_i32_265
  let c0_i32_256 : BitVec 32 := 0#32
  let c0_i32_188 : BitVec 32 := 0#32
  let c1_i32_190 : BitVec 32 := 1#32
  let arg13 : BitVec 32 := Scf.iv c0_i32_188 c1_i32_190 k1_t6
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v385 : Index := Scalar.indexCast v373
  ![1, 0, 0, 1, v385.toNat]
def k1_off59 (k1_t6 : Fin k1_t6_loop.trips) : Fin 5 → Nat :=
  let c1_i32_266 : BitVec 32 := 1#32
  let v388 : Index := Scalar.indexCast c1_i32_266
  let c0_i32_267 : BitVec 32 := 0#32
  let v389 : Index := Scalar.indexCast c0_i32_267
  let c0_i32_268 : BitVec 32 := 0#32
  let v390 : Index := Scalar.indexCast c0_i32_268
  let c2_i32_269 : BitVec 32 := 2#32
  let v391 : Index := Scalar.indexCast c2_i32_269
  let c0_i32_256 : BitVec 32 := 0#32
  let c0_i32_188 : BitVec 32 := 0#32
  let c1_i32_190 : BitVec 32 := 1#32
  let arg13 : BitVec 32 := Scf.iv c0_i32_188 c1_i32_190 k1_t6
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v392 : Index := Scalar.indexCast v373
  ![1, 0, 0, 2, v392.toNat]
def k1_off60 (k1_t6 : Fin k1_t6_loop.trips) : Fin 5 → Nat :=
  let c1_i32_270 : BitVec 32 := 1#32
  let v395 : Index := Scalar.indexCast c1_i32_270
  let c0_i32_271 : BitVec 32 := 0#32
  let v396 : Index := Scalar.indexCast c0_i32_271
  let c0_i32_272 : BitVec 32 := 0#32
  let v397 : Index := Scalar.indexCast c0_i32_272
  let c3_i32_273 : BitVec 32 := 3#32
  let v398 : Index := Scalar.indexCast c3_i32_273
  let c0_i32_256 : BitVec 32 := 0#32
  let c0_i32_188 : BitVec 32 := 0#32
  let c1_i32_190 : BitVec 32 := 1#32
  let arg13 : BitVec 32 := Scf.iv c0_i32_188 c1_i32_190 k1_t6
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v399 : Index := Scalar.indexCast v373
  ![1, 0, 0, 3, v399.toNat]
def k1_off61 (k1_t6 : Fin k1_t6_loop.trips) : Fin 5 → Nat :=
  let c1_i32_274 : BitVec 32 := 1#32
  let v409 : Index := Scalar.indexCast c1_i32_274
  let c0_i32_275 : BitVec 32 := 0#32
  let v410 : Index := Scalar.indexCast c0_i32_275
  let c0_i32_276 : BitVec 32 := 0#32
  let v411 : Index := Scalar.indexCast c0_i32_276
  let c0_i32_277 : BitVec 32 := 0#32
  let v412 : Index := Scalar.indexCast c0_i32_277
  let c0_i32_256 : BitVec 32 := 0#32
  let c0_i32_188 : BitVec 32 := 0#32
  let c1_i32_190 : BitVec 32 := 1#32
  let arg13 : BitVec 32 := Scf.iv c0_i32_188 c1_i32_190 k1_t6
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v413 : Index := Scalar.indexCast v373
  ![1, 0, 0, 0, v413.toNat]
def k1_off62 (k1_t6 : Fin k1_t6_loop.trips) : Fin 5 → Nat :=
  let c1_i32_278 : BitVec 32 := 1#32
  let v424 : Index := Scalar.indexCast c1_i32_278
  let c0_i32_279 : BitVec 32 := 0#32
  let v425 : Index := Scalar.indexCast c0_i32_279
  let c0_i32_280 : BitVec 32 := 0#32
  let v426 : Index := Scalar.indexCast c0_i32_280
  let c1_i32_281 : BitVec 32 := 1#32
  let v427 : Index := Scalar.indexCast c1_i32_281
  let c0_i32_256 : BitVec 32 := 0#32
  let c0_i32_188 : BitVec 32 := 0#32
  let c1_i32_190 : BitVec 32 := 1#32
  let arg13 : BitVec 32 := Scf.iv c0_i32_188 c1_i32_190 k1_t6
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v428 : Index := Scalar.indexCast v373
  ![1, 0, 0, 1, v428.toNat]
def k1_off63 (k1_t6 : Fin k1_t6_loop.trips) : Fin 5 → Nat :=
  let c1_i32_282 : BitVec 32 := 1#32
  let v432 : Index := Scalar.indexCast c1_i32_282
  let c0_i32_283 : BitVec 32 := 0#32
  let v433 : Index := Scalar.indexCast c0_i32_283
  let c1_i32_284 : BitVec 32 := 1#32
  let v434 : Index := Scalar.indexCast c1_i32_284
  let c0_i32_285 : BitVec 32 := 0#32
  let v435 : Index := Scalar.indexCast c0_i32_285
  let c0_i32_256 : BitVec 32 := 0#32
  let c0_i32_188 : BitVec 32 := 0#32
  let c1_i32_190 : BitVec 32 := 1#32
  let arg13 : BitVec 32 := Scf.iv c0_i32_188 c1_i32_190 k1_t6
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v436 : Index := Scalar.indexCast v373
  ![1, 0, 1, 0, v436.toNat]
def k1_off64 (k1_t6 : Fin k1_t6_loop.trips) : Fin 5 → Nat :=
  let c1_i32_286 : BitVec 32 := 1#32
  let v439 : Index := Scalar.indexCast c1_i32_286
  let c0_i32_287 : BitVec 32 := 0#32
  let v440 : Index := Scalar.indexCast c0_i32_287
  let c1_i32_288 : BitVec 32 := 1#32
  let v441 : Index := Scalar.indexCast c1_i32_288
  let c1_i32_289 : BitVec 32 := 1#32
  let v442 : Index := Scalar.indexCast c1_i32_289
  let c0_i32_256 : BitVec 32 := 0#32
  let c0_i32_188 : BitVec 32 := 0#32
  let c1_i32_190 : BitVec 32 := 1#32
  let arg13 : BitVec 32 := Scf.iv c0_i32_188 c1_i32_190 k1_t6
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v443 : Index := Scalar.indexCast v373
  ![1, 0, 1, 1, v443.toNat]
def k1_off65 (k1_t6 : Fin k1_t6_loop.trips) : Fin 5 → Nat :=
  let c1_i32_290 : BitVec 32 := 1#32
  let v446 : Index := Scalar.indexCast c1_i32_290
  let c0_i32_291 : BitVec 32 := 0#32
  let v447 : Index := Scalar.indexCast c0_i32_291
  let c1_i32_292 : BitVec 32 := 1#32
  let v448 : Index := Scalar.indexCast c1_i32_292
  let c2_i32_293 : BitVec 32 := 2#32
  let v449 : Index := Scalar.indexCast c2_i32_293
  let c0_i32_256 : BitVec 32 := 0#32
  let c0_i32_188 : BitVec 32 := 0#32
  let c1_i32_190 : BitVec 32 := 1#32
  let arg13 : BitVec 32 := Scf.iv c0_i32_188 c1_i32_190 k1_t6
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v450 : Index := Scalar.indexCast v373
  ![1, 0, 1, 2, v450.toNat]
def k1_off66 (k1_t6 : Fin k1_t6_loop.trips) : Fin 5 → Nat :=
  let c1_i32_294 : BitVec 32 := 1#32
  let v453 : Index := Scalar.indexCast c1_i32_294
  let c0_i32_295 : BitVec 32 := 0#32
  let v454 : Index := Scalar.indexCast c0_i32_295
  let c1_i32_296 : BitVec 32 := 1#32
  let v455 : Index := Scalar.indexCast c1_i32_296
  let c3_i32_297 : BitVec 32 := 3#32
  let v456 : Index := Scalar.indexCast c3_i32_297
  let c0_i32_256 : BitVec 32 := 0#32
  let c0_i32_188 : BitVec 32 := 0#32
  let c1_i32_190 : BitVec 32 := 1#32
  let arg13 : BitVec 32 := Scf.iv c0_i32_188 c1_i32_190 k1_t6
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v457 : Index := Scalar.indexCast v373
  ![1, 0, 1, 3, v457.toNat]
def k1_off67 (k1_t6 : Fin k1_t6_loop.trips) : Fin 5 → Nat :=
  let c1_i32_298 : BitVec 32 := 1#32
  let v467 : Index := Scalar.indexCast c1_i32_298
  let c0_i32_299 : BitVec 32 := 0#32
  let v468 : Index := Scalar.indexCast c0_i32_299
  let c1_i32_300 : BitVec 32 := 1#32
  let v469 : Index := Scalar.indexCast c1_i32_300
  let c0_i32_301 : BitVec 32 := 0#32
  let v470 : Index := Scalar.indexCast c0_i32_301
  let c0_i32_256 : BitVec 32 := 0#32
  let c0_i32_188 : BitVec 32 := 0#32
  let c1_i32_190 : BitVec 32 := 1#32
  let arg13 : BitVec 32 := Scf.iv c0_i32_188 c1_i32_190 k1_t6
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v471 : Index := Scalar.indexCast v373
  ![1, 0, 1, 0, v471.toNat]
def k1_off68 (k1_t6 : Fin k1_t6_loop.trips) : Fin 5 → Nat :=
  let c1_i32_302 : BitVec 32 := 1#32
  let v482 : Index := Scalar.indexCast c1_i32_302
  let c0_i32_303 : BitVec 32 := 0#32
  let v483 : Index := Scalar.indexCast c0_i32_303
  let c1_i32_304 : BitVec 32 := 1#32
  let v484 : Index := Scalar.indexCast c1_i32_304
  let c1_i32_305 : BitVec 32 := 1#32
  let v485 : Index := Scalar.indexCast c1_i32_305
  let c0_i32_256 : BitVec 32 := 0#32
  let c0_i32_188 : BitVec 32 := 0#32
  let c1_i32_190 : BitVec 32 := 1#32
  let arg13 : BitVec 32 := Scf.iv c0_i32_188 c1_i32_190 k1_t6
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v486 : Index := Scalar.indexCast v373
  ![1, 0, 1, 1, v486.toNat]
@[reducible] def k1_t7_loop : Scf.Loop 32 :=
  let c0_i32_203 : BitVec 32 := 0#32
  let c64_i32_204 : BitVec 32 := 64#32
  let v288 : BitVec 32 := Scalar.addi c0_i32_203 c64_i32_204
  let c1_i32_205 : BitVec 32 := 1#32
  ⟨c0_i32_203, v288, c1_i32_205⟩
def k1_off69 (k1_t7 : Fin k1_t7_loop.trips) : Fin 5 → Nat :=
  let c1_i32_258 : BitVec 32 := 1#32
  let v374 : Index := Scalar.indexCast c1_i32_258
  let c1_i32_259 : BitVec 32 := 1#32
  let v375 : Index := Scalar.indexCast c1_i32_259
  let c0_i32_260 : BitVec 32 := 0#32
  let v376 : Index := Scalar.indexCast c0_i32_260
  let c0_i32_261 : BitVec 32 := 0#32
  let v377 : Index := Scalar.indexCast c0_i32_261
  let c0_i32_256 : BitVec 32 := 0#32
  let c0_i32_203 : BitVec 32 := 0#32
  let c1_i32_205 : BitVec 32 := 1#32
  let arg13 : BitVec 32 := Scf.iv c0_i32_203 c1_i32_205 k1_t7
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v378 : Index := Scalar.indexCast v373
  ![1, 1, 0, 0, v378.toNat]
def k1_off70 (k1_t7 : Fin k1_t7_loop.trips) : Fin 5 → Nat :=
  let c1_i32_262 : BitVec 32 := 1#32
  let v381 : Index := Scalar.indexCast c1_i32_262
  let c1_i32_263 : BitVec 32 := 1#32
  let v382 : Index := Scalar.indexCast c1_i32_263
  let c0_i32_264 : BitVec 32 := 0#32
  let v383 : Index := Scalar.indexCast c0_i32_264
  let c1_i32_265 : BitVec 32 := 1#32
  let v384 : Index := Scalar.indexCast c1_i32_265
  let c0_i32_256 : BitVec 32 := 0#32
  let c0_i32_203 : BitVec 32 := 0#32
  let c1_i32_205 : BitVec 32 := 1#32
  let arg13 : BitVec 32 := Scf.iv c0_i32_203 c1_i32_205 k1_t7
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v385 : Index := Scalar.indexCast v373
  ![1, 1, 0, 1, v385.toNat]
def k1_off71 (k1_t7 : Fin k1_t7_loop.trips) : Fin 5 → Nat :=
  let c1_i32_266 : BitVec 32 := 1#32
  let v388 : Index := Scalar.indexCast c1_i32_266
  let c1_i32_267 : BitVec 32 := 1#32
  let v389 : Index := Scalar.indexCast c1_i32_267
  let c0_i32_268 : BitVec 32 := 0#32
  let v390 : Index := Scalar.indexCast c0_i32_268
  let c2_i32_269 : BitVec 32 := 2#32
  let v391 : Index := Scalar.indexCast c2_i32_269
  let c0_i32_256 : BitVec 32 := 0#32
  let c0_i32_203 : BitVec 32 := 0#32
  let c1_i32_205 : BitVec 32 := 1#32
  let arg13 : BitVec 32 := Scf.iv c0_i32_203 c1_i32_205 k1_t7
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v392 : Index := Scalar.indexCast v373
  ![1, 1, 0, 2, v392.toNat]
def k1_off72 (k1_t7 : Fin k1_t7_loop.trips) : Fin 5 → Nat :=
  let c1_i32_270 : BitVec 32 := 1#32
  let v395 : Index := Scalar.indexCast c1_i32_270
  let c1_i32_271 : BitVec 32 := 1#32
  let v396 : Index := Scalar.indexCast c1_i32_271
  let c0_i32_272 : BitVec 32 := 0#32
  let v397 : Index := Scalar.indexCast c0_i32_272
  let c3_i32_273 : BitVec 32 := 3#32
  let v398 : Index := Scalar.indexCast c3_i32_273
  let c0_i32_256 : BitVec 32 := 0#32
  let c0_i32_203 : BitVec 32 := 0#32
  let c1_i32_205 : BitVec 32 := 1#32
  let arg13 : BitVec 32 := Scf.iv c0_i32_203 c1_i32_205 k1_t7
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v399 : Index := Scalar.indexCast v373
  ![1, 1, 0, 3, v399.toNat]
def k1_off73 (k1_t7 : Fin k1_t7_loop.trips) : Fin 5 → Nat :=
  let c1_i32_274 : BitVec 32 := 1#32
  let v409 : Index := Scalar.indexCast c1_i32_274
  let c1_i32_275 : BitVec 32 := 1#32
  let v410 : Index := Scalar.indexCast c1_i32_275
  let c0_i32_276 : BitVec 32 := 0#32
  let v411 : Index := Scalar.indexCast c0_i32_276
  let c0_i32_277 : BitVec 32 := 0#32
  let v412 : Index := Scalar.indexCast c0_i32_277
  let c0_i32_256 : BitVec 32 := 0#32
  let c0_i32_203 : BitVec 32 := 0#32
  let c1_i32_205 : BitVec 32 := 1#32
  let arg13 : BitVec 32 := Scf.iv c0_i32_203 c1_i32_205 k1_t7
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v413 : Index := Scalar.indexCast v373
  ![1, 1, 0, 0, v413.toNat]
def k1_off74 (k1_t7 : Fin k1_t7_loop.trips) : Fin 5 → Nat :=
  let c1_i32_278 : BitVec 32 := 1#32
  let v424 : Index := Scalar.indexCast c1_i32_278
  let c1_i32_279 : BitVec 32 := 1#32
  let v425 : Index := Scalar.indexCast c1_i32_279
  let c0_i32_280 : BitVec 32 := 0#32
  let v426 : Index := Scalar.indexCast c0_i32_280
  let c1_i32_281 : BitVec 32 := 1#32
  let v427 : Index := Scalar.indexCast c1_i32_281
  let c0_i32_256 : BitVec 32 := 0#32
  let c0_i32_203 : BitVec 32 := 0#32
  let c1_i32_205 : BitVec 32 := 1#32
  let arg13 : BitVec 32 := Scf.iv c0_i32_203 c1_i32_205 k1_t7
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v428 : Index := Scalar.indexCast v373
  ![1, 1, 0, 1, v428.toNat]
def k1_off75 (k1_t7 : Fin k1_t7_loop.trips) : Fin 5 → Nat :=
  let c1_i32_282 : BitVec 32 := 1#32
  let v432 : Index := Scalar.indexCast c1_i32_282
  let c1_i32_283 : BitVec 32 := 1#32
  let v433 : Index := Scalar.indexCast c1_i32_283
  let c1_i32_284 : BitVec 32 := 1#32
  let v434 : Index := Scalar.indexCast c1_i32_284
  let c0_i32_285 : BitVec 32 := 0#32
  let v435 : Index := Scalar.indexCast c0_i32_285
  let c0_i32_256 : BitVec 32 := 0#32
  let c0_i32_203 : BitVec 32 := 0#32
  let c1_i32_205 : BitVec 32 := 1#32
  let arg13 : BitVec 32 := Scf.iv c0_i32_203 c1_i32_205 k1_t7
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v436 : Index := Scalar.indexCast v373
  ![1, 1, 1, 0, v436.toNat]
def k1_off76 (k1_t7 : Fin k1_t7_loop.trips) : Fin 5 → Nat :=
  let c1_i32_286 : BitVec 32 := 1#32
  let v439 : Index := Scalar.indexCast c1_i32_286
  let c1_i32_287 : BitVec 32 := 1#32
  let v440 : Index := Scalar.indexCast c1_i32_287
  let c1_i32_288 : BitVec 32 := 1#32
  let v441 : Index := Scalar.indexCast c1_i32_288
  let c1_i32_289 : BitVec 32 := 1#32
  let v442 : Index := Scalar.indexCast c1_i32_289
  let c0_i32_256 : BitVec 32 := 0#32
  let c0_i32_203 : BitVec 32 := 0#32
  let c1_i32_205 : BitVec 32 := 1#32
  let arg13 : BitVec 32 := Scf.iv c0_i32_203 c1_i32_205 k1_t7
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v443 : Index := Scalar.indexCast v373
  ![1, 1, 1, 1, v443.toNat]
def k1_off77 (k1_t7 : Fin k1_t7_loop.trips) : Fin 5 → Nat :=
  let c1_i32_290 : BitVec 32 := 1#32
  let v446 : Index := Scalar.indexCast c1_i32_290
  let c1_i32_291 : BitVec 32 := 1#32
  let v447 : Index := Scalar.indexCast c1_i32_291
  let c1_i32_292 : BitVec 32 := 1#32
  let v448 : Index := Scalar.indexCast c1_i32_292
  let c2_i32_293 : BitVec 32 := 2#32
  let v449 : Index := Scalar.indexCast c2_i32_293
  let c0_i32_256 : BitVec 32 := 0#32
  let c0_i32_203 : BitVec 32 := 0#32
  let c1_i32_205 : BitVec 32 := 1#32
  let arg13 : BitVec 32 := Scf.iv c0_i32_203 c1_i32_205 k1_t7
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v450 : Index := Scalar.indexCast v373
  ![1, 1, 1, 2, v450.toNat]
def k1_off78 (k1_t7 : Fin k1_t7_loop.trips) : Fin 5 → Nat :=
  let c1_i32_294 : BitVec 32 := 1#32
  let v453 : Index := Scalar.indexCast c1_i32_294
  let c1_i32_295 : BitVec 32 := 1#32
  let v454 : Index := Scalar.indexCast c1_i32_295
  let c1_i32_296 : BitVec 32 := 1#32
  let v455 : Index := Scalar.indexCast c1_i32_296
  let c3_i32_297 : BitVec 32 := 3#32
  let v456 : Index := Scalar.indexCast c3_i32_297
  let c0_i32_256 : BitVec 32 := 0#32
  let c0_i32_203 : BitVec 32 := 0#32
  let c1_i32_205 : BitVec 32 := 1#32
  let arg13 : BitVec 32 := Scf.iv c0_i32_203 c1_i32_205 k1_t7
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v457 : Index := Scalar.indexCast v373
  ![1, 1, 1, 3, v457.toNat]
def k1_off79 (k1_t7 : Fin k1_t7_loop.trips) : Fin 5 → Nat :=
  let c1_i32_298 : BitVec 32 := 1#32
  let v467 : Index := Scalar.indexCast c1_i32_298
  let c1_i32_299 : BitVec 32 := 1#32
  let v468 : Index := Scalar.indexCast c1_i32_299
  let c1_i32_300 : BitVec 32 := 1#32
  let v469 : Index := Scalar.indexCast c1_i32_300
  let c0_i32_301 : BitVec 32 := 0#32
  let v470 : Index := Scalar.indexCast c0_i32_301
  let c0_i32_256 : BitVec 32 := 0#32
  let c0_i32_203 : BitVec 32 := 0#32
  let c1_i32_205 : BitVec 32 := 1#32
  let arg13 : BitVec 32 := Scf.iv c0_i32_203 c1_i32_205 k1_t7
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v471 : Index := Scalar.indexCast v373
  ![1, 1, 1, 0, v471.toNat]
def k1_off80 (k1_t7 : Fin k1_t7_loop.trips) : Fin 5 → Nat :=
  let c1_i32_302 : BitVec 32 := 1#32
  let v482 : Index := Scalar.indexCast c1_i32_302
  let c1_i32_303 : BitVec 32 := 1#32
  let v483 : Index := Scalar.indexCast c1_i32_303
  let c1_i32_304 : BitVec 32 := 1#32
  let v484 : Index := Scalar.indexCast c1_i32_304
  let c1_i32_305 : BitVec 32 := 1#32
  let v485 : Index := Scalar.indexCast c1_i32_305
  let c0_i32_256 : BitVec 32 := 0#32
  let c0_i32_203 : BitVec 32 := 0#32
  let c1_i32_205 : BitVec 32 := 1#32
  let arg13 : BitVec 32 := Scf.iv c0_i32_203 c1_i32_205 k1_t7
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v486 : Index := Scalar.indexCast v373
  ![1, 1, 1, 1, v486.toNat]
@[reducible] def k1_t8_loop : Scf.Loop 32 :=
  let c0_i32_218 : BitVec 32 := 0#32
  let c64_i32_219 : BitVec 32 := 64#32
  let v324 : BitVec 32 := Scalar.addi c0_i32_218 c64_i32_219
  let c1_i32_220 : BitVec 32 := 1#32
  ⟨c0_i32_218, v324, c1_i32_220⟩
def k1_off81 (k1_t8 : Fin k1_t8_loop.trips) : Fin 5 → Nat :=
  let c1_i32_258 : BitVec 32 := 1#32
  let v374 : Index := Scalar.indexCast c1_i32_258
  let c2_i32_259 : BitVec 32 := 2#32
  let v375 : Index := Scalar.indexCast c2_i32_259
  let c0_i32_260 : BitVec 32 := 0#32
  let v376 : Index := Scalar.indexCast c0_i32_260
  let c0_i32_261 : BitVec 32 := 0#32
  let v377 : Index := Scalar.indexCast c0_i32_261
  let c0_i32_256 : BitVec 32 := 0#32
  let c0_i32_218 : BitVec 32 := 0#32
  let c1_i32_220 : BitVec 32 := 1#32
  let arg13 : BitVec 32 := Scf.iv c0_i32_218 c1_i32_220 k1_t8
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v378 : Index := Scalar.indexCast v373
  ![1, 2, 0, 0, v378.toNat]
def k1_off82 (k1_t8 : Fin k1_t8_loop.trips) : Fin 5 → Nat :=
  let c1_i32_262 : BitVec 32 := 1#32
  let v381 : Index := Scalar.indexCast c1_i32_262
  let c2_i32_263 : BitVec 32 := 2#32
  let v382 : Index := Scalar.indexCast c2_i32_263
  let c0_i32_264 : BitVec 32 := 0#32
  let v383 : Index := Scalar.indexCast c0_i32_264
  let c1_i32_265 : BitVec 32 := 1#32
  let v384 : Index := Scalar.indexCast c1_i32_265
  let c0_i32_256 : BitVec 32 := 0#32
  let c0_i32_218 : BitVec 32 := 0#32
  let c1_i32_220 : BitVec 32 := 1#32
  let arg13 : BitVec 32 := Scf.iv c0_i32_218 c1_i32_220 k1_t8
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v385 : Index := Scalar.indexCast v373
  ![1, 2, 0, 1, v385.toNat]
def k1_off83 (k1_t8 : Fin k1_t8_loop.trips) : Fin 5 → Nat :=
  let c1_i32_266 : BitVec 32 := 1#32
  let v388 : Index := Scalar.indexCast c1_i32_266
  let c2_i32_267 : BitVec 32 := 2#32
  let v389 : Index := Scalar.indexCast c2_i32_267
  let c0_i32_268 : BitVec 32 := 0#32
  let v390 : Index := Scalar.indexCast c0_i32_268
  let c2_i32_269 : BitVec 32 := 2#32
  let v391 : Index := Scalar.indexCast c2_i32_269
  let c0_i32_256 : BitVec 32 := 0#32
  let c0_i32_218 : BitVec 32 := 0#32
  let c1_i32_220 : BitVec 32 := 1#32
  let arg13 : BitVec 32 := Scf.iv c0_i32_218 c1_i32_220 k1_t8
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v392 : Index := Scalar.indexCast v373
  ![1, 2, 0, 2, v392.toNat]
def k1_off84 (k1_t8 : Fin k1_t8_loop.trips) : Fin 5 → Nat :=
  let c1_i32_270 : BitVec 32 := 1#32
  let v395 : Index := Scalar.indexCast c1_i32_270
  let c2_i32_271 : BitVec 32 := 2#32
  let v396 : Index := Scalar.indexCast c2_i32_271
  let c0_i32_272 : BitVec 32 := 0#32
  let v397 : Index := Scalar.indexCast c0_i32_272
  let c3_i32_273 : BitVec 32 := 3#32
  let v398 : Index := Scalar.indexCast c3_i32_273
  let c0_i32_256 : BitVec 32 := 0#32
  let c0_i32_218 : BitVec 32 := 0#32
  let c1_i32_220 : BitVec 32 := 1#32
  let arg13 : BitVec 32 := Scf.iv c0_i32_218 c1_i32_220 k1_t8
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v399 : Index := Scalar.indexCast v373
  ![1, 2, 0, 3, v399.toNat]
def k1_off85 (k1_t8 : Fin k1_t8_loop.trips) : Fin 5 → Nat :=
  let c1_i32_274 : BitVec 32 := 1#32
  let v409 : Index := Scalar.indexCast c1_i32_274
  let c2_i32_275 : BitVec 32 := 2#32
  let v410 : Index := Scalar.indexCast c2_i32_275
  let c0_i32_276 : BitVec 32 := 0#32
  let v411 : Index := Scalar.indexCast c0_i32_276
  let c0_i32_277 : BitVec 32 := 0#32
  let v412 : Index := Scalar.indexCast c0_i32_277
  let c0_i32_256 : BitVec 32 := 0#32
  let c0_i32_218 : BitVec 32 := 0#32
  let c1_i32_220 : BitVec 32 := 1#32
  let arg13 : BitVec 32 := Scf.iv c0_i32_218 c1_i32_220 k1_t8
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v413 : Index := Scalar.indexCast v373
  ![1, 2, 0, 0, v413.toNat]
def k1_off86 (k1_t8 : Fin k1_t8_loop.trips) : Fin 5 → Nat :=
  let c1_i32_278 : BitVec 32 := 1#32
  let v424 : Index := Scalar.indexCast c1_i32_278
  let c2_i32_279 : BitVec 32 := 2#32
  let v425 : Index := Scalar.indexCast c2_i32_279
  let c0_i32_280 : BitVec 32 := 0#32
  let v426 : Index := Scalar.indexCast c0_i32_280
  let c1_i32_281 : BitVec 32 := 1#32
  let v427 : Index := Scalar.indexCast c1_i32_281
  let c0_i32_256 : BitVec 32 := 0#32
  let c0_i32_218 : BitVec 32 := 0#32
  let c1_i32_220 : BitVec 32 := 1#32
  let arg13 : BitVec 32 := Scf.iv c0_i32_218 c1_i32_220 k1_t8
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v428 : Index := Scalar.indexCast v373
  ![1, 2, 0, 1, v428.toNat]
def k1_off87 (k1_t8 : Fin k1_t8_loop.trips) : Fin 5 → Nat :=
  let c1_i32_282 : BitVec 32 := 1#32
  let v432 : Index := Scalar.indexCast c1_i32_282
  let c2_i32_283 : BitVec 32 := 2#32
  let v433 : Index := Scalar.indexCast c2_i32_283
  let c1_i32_284 : BitVec 32 := 1#32
  let v434 : Index := Scalar.indexCast c1_i32_284
  let c0_i32_285 : BitVec 32 := 0#32
  let v435 : Index := Scalar.indexCast c0_i32_285
  let c0_i32_256 : BitVec 32 := 0#32
  let c0_i32_218 : BitVec 32 := 0#32
  let c1_i32_220 : BitVec 32 := 1#32
  let arg13 : BitVec 32 := Scf.iv c0_i32_218 c1_i32_220 k1_t8
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v436 : Index := Scalar.indexCast v373
  ![1, 2, 1, 0, v436.toNat]
def k1_off88 (k1_t8 : Fin k1_t8_loop.trips) : Fin 5 → Nat :=
  let c1_i32_286 : BitVec 32 := 1#32
  let v439 : Index := Scalar.indexCast c1_i32_286
  let c2_i32_287 : BitVec 32 := 2#32
  let v440 : Index := Scalar.indexCast c2_i32_287
  let c1_i32_288 : BitVec 32 := 1#32
  let v441 : Index := Scalar.indexCast c1_i32_288
  let c1_i32_289 : BitVec 32 := 1#32
  let v442 : Index := Scalar.indexCast c1_i32_289
  let c0_i32_256 : BitVec 32 := 0#32
  let c0_i32_218 : BitVec 32 := 0#32
  let c1_i32_220 : BitVec 32 := 1#32
  let arg13 : BitVec 32 := Scf.iv c0_i32_218 c1_i32_220 k1_t8
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v443 : Index := Scalar.indexCast v373
  ![1, 2, 1, 1, v443.toNat]
def k1_off89 (k1_t8 : Fin k1_t8_loop.trips) : Fin 5 → Nat :=
  let c1_i32_290 : BitVec 32 := 1#32
  let v446 : Index := Scalar.indexCast c1_i32_290
  let c2_i32_291 : BitVec 32 := 2#32
  let v447 : Index := Scalar.indexCast c2_i32_291
  let c1_i32_292 : BitVec 32 := 1#32
  let v448 : Index := Scalar.indexCast c1_i32_292
  let c2_i32_293 : BitVec 32 := 2#32
  let v449 : Index := Scalar.indexCast c2_i32_293
  let c0_i32_256 : BitVec 32 := 0#32
  let c0_i32_218 : BitVec 32 := 0#32
  let c1_i32_220 : BitVec 32 := 1#32
  let arg13 : BitVec 32 := Scf.iv c0_i32_218 c1_i32_220 k1_t8
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v450 : Index := Scalar.indexCast v373
  ![1, 2, 1, 2, v450.toNat]
def k1_off90 (k1_t8 : Fin k1_t8_loop.trips) : Fin 5 → Nat :=
  let c1_i32_294 : BitVec 32 := 1#32
  let v453 : Index := Scalar.indexCast c1_i32_294
  let c2_i32_295 : BitVec 32 := 2#32
  let v454 : Index := Scalar.indexCast c2_i32_295
  let c1_i32_296 : BitVec 32 := 1#32
  let v455 : Index := Scalar.indexCast c1_i32_296
  let c3_i32_297 : BitVec 32 := 3#32
  let v456 : Index := Scalar.indexCast c3_i32_297
  let c0_i32_256 : BitVec 32 := 0#32
  let c0_i32_218 : BitVec 32 := 0#32
  let c1_i32_220 : BitVec 32 := 1#32
  let arg13 : BitVec 32 := Scf.iv c0_i32_218 c1_i32_220 k1_t8
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v457 : Index := Scalar.indexCast v373
  ![1, 2, 1, 3, v457.toNat]
def k1_off91 (k1_t8 : Fin k1_t8_loop.trips) : Fin 5 → Nat :=
  let c1_i32_298 : BitVec 32 := 1#32
  let v467 : Index := Scalar.indexCast c1_i32_298
  let c2_i32_299 : BitVec 32 := 2#32
  let v468 : Index := Scalar.indexCast c2_i32_299
  let c1_i32_300 : BitVec 32 := 1#32
  let v469 : Index := Scalar.indexCast c1_i32_300
  let c0_i32_301 : BitVec 32 := 0#32
  let v470 : Index := Scalar.indexCast c0_i32_301
  let c0_i32_256 : BitVec 32 := 0#32
  let c0_i32_218 : BitVec 32 := 0#32
  let c1_i32_220 : BitVec 32 := 1#32
  let arg13 : BitVec 32 := Scf.iv c0_i32_218 c1_i32_220 k1_t8
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v471 : Index := Scalar.indexCast v373
  ![1, 2, 1, 0, v471.toNat]
def k1_off92 (k1_t8 : Fin k1_t8_loop.trips) : Fin 5 → Nat :=
  let c1_i32_302 : BitVec 32 := 1#32
  let v482 : Index := Scalar.indexCast c1_i32_302
  let c2_i32_303 : BitVec 32 := 2#32
  let v483 : Index := Scalar.indexCast c2_i32_303
  let c1_i32_304 : BitVec 32 := 1#32
  let v484 : Index := Scalar.indexCast c1_i32_304
  let c1_i32_305 : BitVec 32 := 1#32
  let v485 : Index := Scalar.indexCast c1_i32_305
  let c0_i32_256 : BitVec 32 := 0#32
  let c0_i32_218 : BitVec 32 := 0#32
  let c1_i32_220 : BitVec 32 := 1#32
  let arg13 : BitVec 32 := Scf.iv c0_i32_218 c1_i32_220 k1_t8
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v486 : Index := Scalar.indexCast v373
  ![1, 2, 1, 1, v486.toNat]
@[reducible] def k1_t9_loop : Scf.Loop 32 :=
  let c0_i32_233 : BitVec 32 := 0#32
  let c64_i32_234 : BitVec 32 := 64#32
  let v360 : BitVec 32 := Scalar.addi c0_i32_233 c64_i32_234
  let c1_i32_235 : BitVec 32 := 1#32
  ⟨c0_i32_233, v360, c1_i32_235⟩
def k1_off93 (k1_t9 : Fin k1_t9_loop.trips) : Fin 5 → Nat :=
  let c1_i32_258 : BitVec 32 := 1#32
  let v374 : Index := Scalar.indexCast c1_i32_258
  let c3_i32_259 : BitVec 32 := 3#32
  let v375 : Index := Scalar.indexCast c3_i32_259
  let c0_i32_260 : BitVec 32 := 0#32
  let v376 : Index := Scalar.indexCast c0_i32_260
  let c0_i32_261 : BitVec 32 := 0#32
  let v377 : Index := Scalar.indexCast c0_i32_261
  let c0_i32_256 : BitVec 32 := 0#32
  let c0_i32_233 : BitVec 32 := 0#32
  let c1_i32_235 : BitVec 32 := 1#32
  let arg13 : BitVec 32 := Scf.iv c0_i32_233 c1_i32_235 k1_t9
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v378 : Index := Scalar.indexCast v373
  ![1, 3, 0, 0, v378.toNat]
def k1_off94 (k1_t9 : Fin k1_t9_loop.trips) : Fin 5 → Nat :=
  let c1_i32_262 : BitVec 32 := 1#32
  let v381 : Index := Scalar.indexCast c1_i32_262
  let c3_i32_263 : BitVec 32 := 3#32
  let v382 : Index := Scalar.indexCast c3_i32_263
  let c0_i32_264 : BitVec 32 := 0#32
  let v383 : Index := Scalar.indexCast c0_i32_264
  let c1_i32_265 : BitVec 32 := 1#32
  let v384 : Index := Scalar.indexCast c1_i32_265
  let c0_i32_256 : BitVec 32 := 0#32
  let c0_i32_233 : BitVec 32 := 0#32
  let c1_i32_235 : BitVec 32 := 1#32
  let arg13 : BitVec 32 := Scf.iv c0_i32_233 c1_i32_235 k1_t9
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v385 : Index := Scalar.indexCast v373
  ![1, 3, 0, 1, v385.toNat]
def k1_off95 (k1_t9 : Fin k1_t9_loop.trips) : Fin 5 → Nat :=
  let c1_i32_266 : BitVec 32 := 1#32
  let v388 : Index := Scalar.indexCast c1_i32_266
  let c3_i32_267 : BitVec 32 := 3#32
  let v389 : Index := Scalar.indexCast c3_i32_267
  let c0_i32_268 : BitVec 32 := 0#32
  let v390 : Index := Scalar.indexCast c0_i32_268
  let c2_i32_269 : BitVec 32 := 2#32
  let v391 : Index := Scalar.indexCast c2_i32_269
  let c0_i32_256 : BitVec 32 := 0#32
  let c0_i32_233 : BitVec 32 := 0#32
  let c1_i32_235 : BitVec 32 := 1#32
  let arg13 : BitVec 32 := Scf.iv c0_i32_233 c1_i32_235 k1_t9
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v392 : Index := Scalar.indexCast v373
  ![1, 3, 0, 2, v392.toNat]
def k1_off96 (k1_t9 : Fin k1_t9_loop.trips) : Fin 5 → Nat :=
  let c1_i32_270 : BitVec 32 := 1#32
  let v395 : Index := Scalar.indexCast c1_i32_270
  let c3_i32_271 : BitVec 32 := 3#32
  let v396 : Index := Scalar.indexCast c3_i32_271
  let c0_i32_272 : BitVec 32 := 0#32
  let v397 : Index := Scalar.indexCast c0_i32_272
  let c3_i32_273 : BitVec 32 := 3#32
  let v398 : Index := Scalar.indexCast c3_i32_273
  let c0_i32_256 : BitVec 32 := 0#32
  let c0_i32_233 : BitVec 32 := 0#32
  let c1_i32_235 : BitVec 32 := 1#32
  let arg13 : BitVec 32 := Scf.iv c0_i32_233 c1_i32_235 k1_t9
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v399 : Index := Scalar.indexCast v373
  ![1, 3, 0, 3, v399.toNat]
def k1_off97 (k1_t9 : Fin k1_t9_loop.trips) : Fin 5 → Nat :=
  let c1_i32_274 : BitVec 32 := 1#32
  let v409 : Index := Scalar.indexCast c1_i32_274
  let c3_i32_275 : BitVec 32 := 3#32
  let v410 : Index := Scalar.indexCast c3_i32_275
  let c0_i32_276 : BitVec 32 := 0#32
  let v411 : Index := Scalar.indexCast c0_i32_276
  let c0_i32_277 : BitVec 32 := 0#32
  let v412 : Index := Scalar.indexCast c0_i32_277
  let c0_i32_256 : BitVec 32 := 0#32
  let c0_i32_233 : BitVec 32 := 0#32
  let c1_i32_235 : BitVec 32 := 1#32
  let arg13 : BitVec 32 := Scf.iv c0_i32_233 c1_i32_235 k1_t9
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v413 : Index := Scalar.indexCast v373
  ![1, 3, 0, 0, v413.toNat]
def k1_off98 (k1_t9 : Fin k1_t9_loop.trips) : Fin 5 → Nat :=
  let c1_i32_278 : BitVec 32 := 1#32
  let v424 : Index := Scalar.indexCast c1_i32_278
  let c3_i32_279 : BitVec 32 := 3#32
  let v425 : Index := Scalar.indexCast c3_i32_279
  let c0_i32_280 : BitVec 32 := 0#32
  let v426 : Index := Scalar.indexCast c0_i32_280
  let c1_i32_281 : BitVec 32 := 1#32
  let v427 : Index := Scalar.indexCast c1_i32_281
  let c0_i32_256 : BitVec 32 := 0#32
  let c0_i32_233 : BitVec 32 := 0#32
  let c1_i32_235 : BitVec 32 := 1#32
  let arg13 : BitVec 32 := Scf.iv c0_i32_233 c1_i32_235 k1_t9
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v428 : Index := Scalar.indexCast v373
  ![1, 3, 0, 1, v428.toNat]
def k1_off99 (k1_t9 : Fin k1_t9_loop.trips) : Fin 5 → Nat :=
  let c1_i32_282 : BitVec 32 := 1#32
  let v432 : Index := Scalar.indexCast c1_i32_282
  let c3_i32_283 : BitVec 32 := 3#32
  let v433 : Index := Scalar.indexCast c3_i32_283
  let c1_i32_284 : BitVec 32 := 1#32
  let v434 : Index := Scalar.indexCast c1_i32_284
  let c0_i32_285 : BitVec 32 := 0#32
  let v435 : Index := Scalar.indexCast c0_i32_285
  let c0_i32_256 : BitVec 32 := 0#32
  let c0_i32_233 : BitVec 32 := 0#32
  let c1_i32_235 : BitVec 32 := 1#32
  let arg13 : BitVec 32 := Scf.iv c0_i32_233 c1_i32_235 k1_t9
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v436 : Index := Scalar.indexCast v373
  ![1, 3, 1, 0, v436.toNat]
def k1_off100 (k1_t9 : Fin k1_t9_loop.trips) : Fin 5 → Nat :=
  let c1_i32_286 : BitVec 32 := 1#32
  let v439 : Index := Scalar.indexCast c1_i32_286
  let c3_i32_287 : BitVec 32 := 3#32
  let v440 : Index := Scalar.indexCast c3_i32_287
  let c1_i32_288 : BitVec 32 := 1#32
  let v441 : Index := Scalar.indexCast c1_i32_288
  let c1_i32_289 : BitVec 32 := 1#32
  let v442 : Index := Scalar.indexCast c1_i32_289
  let c0_i32_256 : BitVec 32 := 0#32
  let c0_i32_233 : BitVec 32 := 0#32
  let c1_i32_235 : BitVec 32 := 1#32
  let arg13 : BitVec 32 := Scf.iv c0_i32_233 c1_i32_235 k1_t9
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v443 : Index := Scalar.indexCast v373
  ![1, 3, 1, 1, v443.toNat]
def k1_off101 (k1_t9 : Fin k1_t9_loop.trips) : Fin 5 → Nat :=
  let c1_i32_290 : BitVec 32 := 1#32
  let v446 : Index := Scalar.indexCast c1_i32_290
  let c3_i32_291 : BitVec 32 := 3#32
  let v447 : Index := Scalar.indexCast c3_i32_291
  let c1_i32_292 : BitVec 32 := 1#32
  let v448 : Index := Scalar.indexCast c1_i32_292
  let c2_i32_293 : BitVec 32 := 2#32
  let v449 : Index := Scalar.indexCast c2_i32_293
  let c0_i32_256 : BitVec 32 := 0#32
  let c0_i32_233 : BitVec 32 := 0#32
  let c1_i32_235 : BitVec 32 := 1#32
  let arg13 : BitVec 32 := Scf.iv c0_i32_233 c1_i32_235 k1_t9
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v450 : Index := Scalar.indexCast v373
  ![1, 3, 1, 2, v450.toNat]
def k1_off102 (k1_t9 : Fin k1_t9_loop.trips) : Fin 5 → Nat :=
  let c1_i32_294 : BitVec 32 := 1#32
  let v453 : Index := Scalar.indexCast c1_i32_294
  let c3_i32_295 : BitVec 32 := 3#32
  let v454 : Index := Scalar.indexCast c3_i32_295
  let c1_i32_296 : BitVec 32 := 1#32
  let v455 : Index := Scalar.indexCast c1_i32_296
  let c3_i32_297 : BitVec 32 := 3#32
  let v456 : Index := Scalar.indexCast c3_i32_297
  let c0_i32_256 : BitVec 32 := 0#32
  let c0_i32_233 : BitVec 32 := 0#32
  let c1_i32_235 : BitVec 32 := 1#32
  let arg13 : BitVec 32 := Scf.iv c0_i32_233 c1_i32_235 k1_t9
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v457 : Index := Scalar.indexCast v373
  ![1, 3, 1, 3, v457.toNat]
def k1_off103 (k1_t9 : Fin k1_t9_loop.trips) : Fin 5 → Nat :=
  let c1_i32_298 : BitVec 32 := 1#32
  let v467 : Index := Scalar.indexCast c1_i32_298
  let c3_i32_299 : BitVec 32 := 3#32
  let v468 : Index := Scalar.indexCast c3_i32_299
  let c1_i32_300 : BitVec 32 := 1#32
  let v469 : Index := Scalar.indexCast c1_i32_300
  let c0_i32_301 : BitVec 32 := 0#32
  let v470 : Index := Scalar.indexCast c0_i32_301
  let c0_i32_256 : BitVec 32 := 0#32
  let c0_i32_233 : BitVec 32 := 0#32
  let c1_i32_235 : BitVec 32 := 1#32
  let arg13 : BitVec 32 := Scf.iv c0_i32_233 c1_i32_235 k1_t9
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v471 : Index := Scalar.indexCast v373
  ![1, 3, 1, 0, v471.toNat]
def k1_off104 (k1_t9 : Fin k1_t9_loop.trips) : Fin 5 → Nat :=
  let c1_i32_302 : BitVec 32 := 1#32
  let v482 : Index := Scalar.indexCast c1_i32_302
  let c3_i32_303 : BitVec 32 := 3#32
  let v483 : Index := Scalar.indexCast c3_i32_303
  let c1_i32_304 : BitVec 32 := 1#32
  let v484 : Index := Scalar.indexCast c1_i32_304
  let c1_i32_305 : BitVec 32 := 1#32
  let v485 : Index := Scalar.indexCast c1_i32_305
  let c0_i32_256 : BitVec 32 := 0#32
  let c0_i32_233 : BitVec 32 := 0#32
  let c1_i32_235 : BitVec 32 := 1#32
  let arg13 : BitVec 32 := Scf.iv c0_i32_233 c1_i32_235 k1_t9
  let c1_i32_255 : BitVec 32 := 1#32
  let v371 : BitVec 32 := Scalar.muli arg13 c1_i32_255
  let v372 : BitVec 32 := Scalar.addi c0_i32_256 v371
  let c16_i32_257 : BitVec 32 := 16#32
  let v373 : BitVec 32 := Scalar.muli v372 c16_i32_257
  let v486 : Index := Scalar.indexCast v373
  ![1, 3, 1, 1, v486.toNat]
def k1_cond4 (k1_t1 : Fin k1_t1_loop.trips) : BitVec 1 :=
  let c0_i32_31 : BitVec 32 := 0#32
  let c1_i32_32 : BitVec 32 := 1#32
  let arg12 : BitVec 32 := Scf.iv c0_i32_31 c1_i32_32 k1_t1
  let c2_i32_156 : BitVec 32 := 2#32
  let v202 : BitVec 32 := Scalar.muli arg12 c2_i32_156
  let c1_i32_157 : BitVec 32 := 1#32
  let v203 : BitVec 32 := Scalar.addi v202 c1_i32_157
  let c2_i32_252 : BitVec 32 := 2#32
  let v367 : BitVec 32 := Scalar.addi v203 c2_i32_252
  let c32_i32_253 : BitVec 32 := 32#32
  let v368 : BitVec 1 := Scalar.cmpi .slt v367 c32_i32_253
  let v369 : BitVec 32 := Scalar.extui v368
  let c0_i32_254 : BitVec 32 := 0#32
  let v370 : BitVec 1 := Scalar.cmpi .ne v369 c0_i32_254
  v370

def k1_off105 (i : grid1.Coords) (k1_t1 : Fin k1_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_31 : BitVec 32 := 0#32
  let c1_i32_32 : BitVec 32 := 1#32
  let arg12 : BitVec 32 := Scf.iv c0_i32_31 c1_i32_32 k1_t1
  let c2_i32_156 : BitVec 32 := 2#32
  let v202 : BitVec 32 := Scalar.muli arg12 c2_i32_156
  let c1_i32_157 : BitVec 32 := 1#32
  let v203 : BitVec 32 := Scalar.addi v202 c1_i32_157
  let c2_i32_255 : BitVec 32 := 2#32
  let v371 : BitVec 32 := Scalar.addi v203 c2_i32_255
  let c4_i32_256 : BitVec 32 := 4#32
  let v372 : BitVec 32 := Scalar.muli v371 c4_i32_256
  let v373 : BitVec 32 := Scalar.addi v2 v372
  let c0_i32_262 : BitVec 32 := 0#32
  let c0_i32_263 : BitVec 32 := 0#32
  let c0_i32_264 : BitVec 32 := 0#32
  ![v373.toNat, 0, 0, 0]
def k1_off106 (i : grid1.Coords) (c120_i32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v19 : BitVec 32 := Scalar.addi v2 c120_i32
  let c0_i32_39 : BitVec 32 := 0#32
  let c0_i32_40 : BitVec 32 := 0#32
  let c0_i32_41 : BitVec 32 := 0#32
  ![v19.toNat, 0, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x2x4x1024 : Shape := ⟨4, ![4096, 2, 4, 1024]⟩
abbrev S8192x4 : Shape := ⟨2, ![8192, 4]⟩
abbrev S4096x4x1024x2 : Shape := ⟨4, ![4096, 4, 1024, 2]⟩
abbrev S4096x8192 : Shape := ⟨2, ![4096, 8192]⟩
abbrev S4096x4 : Shape := ⟨2, ![4096, 4]⟩
abbrev S_ : Shape := ⟨0, ![]⟩
abbrev S4096 : Shape := ⟨1, ![4096]⟩
abbrev S4096x1 : Shape := ⟨2, ![4096, 1]⟩
abbrev S1 : Shape := ⟨1, ![1]⟩
abbrev S4096x1x4 : Shape := ⟨3, ![4096, 1, 4]⟩
abbrev S1x4096x1x1x1x4 : Shape := ⟨6, ![1, 4096, 1, 1, 1, 4]⟩
abbrev S1x4096x2x1x1x4 : Shape := ⟨6, ![1, 4096, 2, 1, 1, 4]⟩
abbrev S4096x2x4 : Shape := ⟨3, ![4096, 2, 4]⟩
abbrev S4096x2x2 : Shape := ⟨3, ![4096, 2, 2]⟩
abbrev S4096x2x2x1 : Shape := ⟨4, ![4096, 2, 2, 1]⟩
abbrev S1x1x1x1 : Shape := ⟨4, ![1, 1, 1, 1]⟩
abbrev S4096x2x2x1024 : Shape := ⟨4, ![4096, 2, 2, 1024]⟩

abbrev nBuf : Space → Nat
  | .hbm => 120
  | .vmem => 0
  | .smem => 0
  | _ => 0

abbrev bufTy : (tb : Table) → Fin (tcTables nBuf tb) → BufTy
  | .hbm, ⟨0, _⟩ => ⟨S4096x2x4x1024, .f32⟩
  | .hbm, ⟨1, _⟩ => ⟨S8192x4, .f32⟩
  | .hbm, ⟨2, _⟩ => ⟨S4096x4x1024x2, .f32⟩
  | .hbm, ⟨3, _⟩ => ⟨S4096x8192, .f32⟩
  | .hbm, ⟨4, _⟩ => ⟨S4096x4, .f32⟩
  | .hbm, ⟨5, _⟩ => ⟨S4096x4, .f32⟩
  | .hbm, ⟨6, _⟩ => ⟨S4096x4, .f32⟩
  | .hbm, ⟨7, _⟩ => ⟨S_, .f32⟩
  | .hbm, ⟨8, _⟩ => ⟨S4096x4, .f32⟩
  | .hbm, ⟨9, _⟩ => ⟨S4096x4, .f32⟩
  | .hbm, ⟨10, _⟩ => ⟨S_, .f32⟩
  | .hbm, ⟨11, _⟩ => ⟨S4096x4, .f32⟩
  | .hbm, ⟨12, _⟩ => ⟨S4096x4, .f32⟩
  | .hbm, ⟨13, _⟩ => ⟨S_, .f32⟩
  | .hbm, ⟨14, _⟩ => ⟨S4096x4, .i1⟩
  | .hbm, ⟨15, _⟩ => ⟨S_, .i1⟩
  | .hbm, ⟨16, _⟩ => ⟨S4096, .i1⟩
  | .hbm, ⟨17, _⟩ => ⟨S4096x1, .i1⟩
  | .hbm, ⟨18, _⟩ => ⟨S_, .f32⟩
  | .hbm, ⟨19, _⟩ => ⟨S_, .f32⟩
  | .hbm, ⟨20, _⟩ => ⟨S4096x4, .i1⟩
  | .hbm, ⟨21, _⟩ => ⟨S4096x4, .f32⟩
  | .hbm, ⟨22, _⟩ => ⟨S4096x4, .f32⟩
  | .hbm, ⟨23, _⟩ => ⟨S4096x4, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .i32⟩
  | .hbm, ⟨44, _⟩ => ⟨S_, .i32⟩
  | .hbm, ⟨45, _⟩ => ⟨S1, .i32⟩
  | .hbm, ⟨46, _⟩ => ⟨S4096x1, .f32⟩
  | .hbm, ⟨47, _⟩ => ⟨S1, .i32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x4, .f32⟩
  | .hbm, ⟨54, _⟩ => ⟨S4096x4, .i1⟩
  | .hbm, ⟨55, _⟩ => ⟨S4096x1x4, .i1⟩
  | .hbm, ⟨56, _⟩ => ⟨S1x4096x1x1x1x4, .i1⟩
  | .hbm, ⟨57, _⟩ => ⟨S1x4096x2x1x1x4, .i1⟩
  | .hbm, ⟨58, _⟩ => ⟨S4096x2x4, .i1⟩
  | .hbm, ⟨59, _⟩ => ⟨S4096x2x4, .i1⟩
  | .hbm, ⟨60, _⟩ => ⟨S4096x2x4, .i32⟩
  | .hbm, ⟨61, _⟩ => ⟨S4096x2x4, .i32⟩
  | .hbm, ⟨62, _⟩ => ⟨S4096x2x4, .i32⟩
  | .hbm, ⟨63, _⟩ => ⟨S4096x2x4, .i32⟩
  | .hbm, ⟨64, _⟩ => ⟨S4096x2x2, .i32⟩
  | .hbm, ⟨65, _⟩ => ⟨S4096x2x4, .i32⟩
  | .hbm, ⟨66, _⟩ => ⟨S4096x2x4, .i32⟩
  | .hbm, ⟨67, _⟩ => ⟨S4096x2x4, .i32⟩
  | .hbm, ⟨68, _⟩ => ⟨S4096x2x4, .i32⟩
  | .hbm, ⟨69, _⟩ => ⟨S4096x2x2, .i32⟩
  | .hbm, ⟨70, _⟩ => ⟨S4096x2x2x1, .i32⟩
  | .hbm, ⟨71, _⟩ => ⟨S_, .i32⟩
  | .hbm, ⟨72, _⟩ => ⟨S4096x2x2x1, .i32⟩
  | .hbm, ⟨73, _⟩ => ⟨S4096x2x2x1, .i1⟩
  | .hbm, ⟨74, _⟩ => ⟨S_, .i32⟩
  | .hbm, ⟨75, _⟩ => ⟨S4096x2x2x1, .i32⟩
  | .hbm, ⟨76, _⟩ => ⟨S4096x2x2x1, .i32⟩
  | .hbm, ⟨77, _⟩ => ⟨S4096x2x2x1, .i32⟩
  | .hbm, ⟨78, _⟩ => ⟨S1, .i32⟩
  | .hbm, ⟨79, _⟩ => ⟨S_, .i32⟩
  | .hbm, ⟨80, _⟩ => ⟨S4096x2x2x1, .i32⟩
  | .hbm, ⟨81, _⟩ => ⟨S4096x2x2x1, .i1⟩
  | .hbm, ⟨82, _⟩ => ⟨S1x1x1x1, .i32⟩
  | .hbm, ⟨83, _⟩ => ⟨S4096x2x2x1, .i32⟩
  | .hbm, ⟨84, _⟩ => ⟨S4096x2x2x1, .i1⟩
  | .hbm, ⟨85, _⟩ => ⟨S4096x2x2x1, .i1⟩
  | .hbm, ⟨86, _⟩ => ⟨S_, .i1⟩
  | .hbm, ⟨87, _⟩ => ⟨S4096x2x2, .i1⟩
  | .hbm, ⟨88, _⟩ => ⟨S4096x2x2x1024, .f32⟩
  | .hbm, ⟨89, _⟩ => ⟨S4096x2x2x1024, .i1⟩
  | .hbm, ⟨90, _⟩ => ⟨S_, .f32⟩
  | .hbm, ⟨91, _⟩ => ⟨S4096x2x2x1024, .f32⟩
  | .hbm, ⟨92, _⟩ => ⟨S4096x2x2x1024, .f32⟩
  | .hbm, ⟨93, _⟩ => ⟨S4096x2x2x1, .i32⟩
  | .hbm, ⟨94, _⟩ => ⟨S_, .i32⟩
  | .hbm, ⟨95, _⟩ => ⟨S4096x2x2x1, .i32⟩
  | .hbm, ⟨96, _⟩ => ⟨S4096x2x2x1, .i1⟩
  | .hbm, ⟨97, _⟩ => ⟨S_, .i32⟩
  | .hbm, ⟨98, _⟩ => ⟨S4096x2x2x1, .i32⟩
  | .hbm, ⟨99, _⟩ => ⟨S4096x2x2x1, .i32⟩
  | .hbm, ⟨100, _⟩ => ⟨S4096x2x2x1, .i32⟩
  | .hbm, ⟨101, _⟩ => ⟨S1, .i32⟩
  | .hbm, ⟨102, _⟩ => ⟨S_, .i32⟩
  | .hbm, ⟨103, _⟩ => ⟨S4096x2x2x1, .i32⟩
  | .hbm, ⟨104, _⟩ => ⟨S4096x2x2x1, .i1⟩
  | .hbm, ⟨105, _⟩ => ⟨S1x1x1x1, .i32⟩
  | .hbm, ⟨106, _⟩ => ⟨S4096x2x2x1, .i32⟩
  | .hbm, ⟨107, _⟩ => ⟨S4096x2x2x1, .i1⟩
  | .hbm, ⟨108, _⟩ => ⟨S4096x2x2x1, .i1⟩
  | .hbm, ⟨109, _⟩ => ⟨S_, .i1⟩
  | .hbm, ⟨110, _⟩ => ⟨S4096x2x2, .i1⟩
  | .hbm, ⟨111, _⟩ => ⟨S4096x2x2x1024, .f32⟩
  | .hbm, ⟨112, _⟩ => ⟨S4096x2x2x1024, .i1⟩
  | .hbm, ⟨113, _⟩ => ⟨S_, .f32⟩
  | .hbm, ⟨114, _⟩ => ⟨S4096x2x2x1024, .f32⟩
  | .hbm, ⟨115, _⟩ => ⟨S4096x2x2x1024, .f32⟩
  | .hbm, ⟨116, _⟩ => ⟨S_, .f32⟩
  | .hbm, ⟨117, _⟩ => ⟨S4096x2x2x1024, .f32⟩
  | .hbm, ⟨118, _⟩ => ⟨S4096x2x2x1024, .f32⟩
  | .hbm, ⟨119, _⟩ => ⟨S4096x2x2x1024, .f32⟩
  | _, _ => ⟨S4096x2x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_call0_cst : Ref sig .tc := ⟨.hbm, 13, rfl⟩
abbrev main_call0_call0_v0 : Ref sig .tc := ⟨.hbm, 14, rfl⟩
abbrev main_call0_call0_c : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_cst : Ref sig .tc := ⟨.hbm, 18, rfl⟩
abbrev main_call0_call0_call0_v0 : Ref sig .tc := ⟨.hbm, 19, rfl⟩
abbrev main_call0_call0_call0_v1 : Ref sig .tc := ⟨.hbm, 20, rfl⟩
abbrev main_call0_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_cst_0 : Ref sig .tc := ⟨.hbm, 24, rfl⟩
abbrev main_call0_call0_cst_1 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_cst_2 : Ref sig .tc := ⟨.hbm, 31, rfl⟩
abbrev main_call0_call0_v10 : Ref sig .tc := ⟨.hbm, 32, rfl⟩
abbrev main_call0_call0_cst_3 : Ref sig .tc := ⟨.hbm, 33, rfl⟩
abbrev main_call0_call0_cst_4 : Ref sig .tc := ⟨.hbm, 34, rfl⟩
abbrev main_call0_call0_v11 : Ref sig .tc := ⟨.hbm, 35, rfl⟩
abbrev main_call0_call0_cst_5 : Ref sig .tc := ⟨.hbm, 36, rfl⟩
abbrev main_call0_call0_v12 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v13 : Ref sig .tc := ⟨.hbm, 40, rfl⟩
abbrev main_call0_call0_cst_8 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_call0_call0_cst_9 : Ref sig .tc := ⟨.hbm, 50, rfl⟩
abbrev main_call0_call0_v22 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_call1_v0 : Ref sig .tc := ⟨.hbm, 61, rfl⟩
abbrev main_call1_v1_0 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_call2_v0 : Ref sig .tc := ⟨.hbm, 66, rfl⟩
abbrev main_call2_v1_0 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_call3_c : Ref sig .tc := ⟨.hbm, 71, rfl⟩
abbrev main_call3_v0 : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_c_1 : Ref sig .tc := ⟨.hbm, 78, rfl⟩
abbrev main_call3_c_2 : Ref sig .tc := ⟨.hbm, 79, rfl⟩
abbrev main_call3_v5 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_c_3 : Ref sig .tc := ⟨.hbm, 86, rfl⟩
abbrev main_call3_v11 : Ref sig .tc := ⟨.hbm, 87, rfl⟩
abbrev main_call3_v12 : Ref sig .tc := ⟨.hbm, 88, rfl⟩
abbrev main_call3_v13 : Ref sig .tc := ⟨.hbm, 89, rfl⟩
abbrev main_call3_cst : Ref sig .tc := ⟨.hbm, 90, rfl⟩
abbrev main_call3_v14 : Ref sig .tc := ⟨.hbm, 91, rfl⟩
abbrev main_v24 : Ref sig .tc := ⟨.hbm, 92, rfl⟩
abbrev main_v25 : Ref sig .tc := ⟨.hbm, 93, rfl⟩
abbrev main_call4_c : Ref sig .tc := ⟨.hbm, 94, rfl⟩
abbrev main_call4_v0 : Ref sig .tc := ⟨.hbm, 95, rfl⟩
abbrev main_call4_v1 : Ref sig .tc := ⟨.hbm, 96, rfl⟩
abbrev main_call4_c_0 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_c_1 : Ref sig .tc := ⟨.hbm, 101, rfl⟩
abbrev main_call4_c_2 : Ref sig .tc := ⟨.hbm, 102, rfl⟩
abbrev main_call4_v5 : Ref sig .tc := ⟨.hbm, 103, rfl⟩
abbrev main_call4_v6 : Ref sig .tc := ⟨.hbm, 104, rfl⟩
abbrev main_call4_v7 : Ref sig .tc := ⟨.hbm, 105, rfl⟩
abbrev main_call4_v8 : Ref sig .tc := ⟨.hbm, 106, rfl⟩
abbrev main_call4_v9 : Ref sig .tc := ⟨.hbm, 107, rfl⟩
abbrev main_call4_v10 : Ref sig .tc := ⟨.hbm, 108, rfl⟩
abbrev main_call4_c_3 : Ref sig .tc := ⟨.hbm, 109, rfl⟩
abbrev main_call4_v11 : Ref sig .tc := ⟨.hbm, 110, rfl⟩
abbrev main_call4_v12 : Ref sig .tc := ⟨.hbm, 111, rfl⟩
abbrev main_call4_v13 : Ref sig .tc := ⟨.hbm, 112, rfl⟩
abbrev main_call4_cst : Ref sig .tc := ⟨.hbm, 113, rfl⟩
abbrev main_call4_v14 : Ref sig .tc := ⟨.hbm, 114, rfl⟩
abbrev main_v26 : Ref sig .tc := ⟨.hbm, 115, rfl⟩
abbrev main_cst_1 : Ref sig .tc := ⟨.hbm, 116, rfl⟩
abbrev main_v27 : Ref sig .tc := ⟨.hbm, 117, rfl⟩
abbrev main_v28 : Ref sig .tc := ⟨.hbm, 118, rfl⟩
abbrev main_v29 : Ref sig .tc := ⟨.hbm, 119, rfl⟩

abbrev nD : Nat := 1
abbrev τ : Topo := Topo.v7x

variable {F : FTy → Type} [FloatOps F]
-- ==== Proof.ScProg.lean ====
/-
  The tile kernel's body restated compactly: the two halves of a trip (one per slot of the two-deep ring) are ONE
  program in the slot `sl`, a half's four rows ONE program in the row `r`, and a row's chunk ONE program in both.
  The printed body, whose text spells the eight rows and their loops out, equals the restatement (`body_eq`).
-/
module

public import proofs.«01_k».proof.Defs
public import proofs.«01_k».proof.Proof.Gen.KernelIdeal
public import proofs.«01_k».proof.Proof.Gen.KernelIdeal.Skeleton

@[expose] public section

noncomputable section

namespace Cert.Proof.Sc

open Cert.KernelIdeal Cert.KernelIdeal.Gen
open Idealize.ShloMosaic Idealize.SL.Sem

variable {F : FTy → Type} [FloatOps F]

/-! ## The arrays and buffers the body is handed -/

abbrev xA : Memref sig .scVector .hbm S4096x2x4x1024 .f32 := Memref.whole main_arg0_scv
abbrev cA : Memref sig .scVector .hbm S524288 .f32 := Memref.whole main_v3_scv
abbrev oA : Memref sig .scVector .hbm S4096x2x2x1024 .f32 := Memref.whole main_v4_scv
abbrev xB : Memref sig .scVector .vmem S2x4x2x4x1024 .f32 := Memref.whole cc1_scratch0
abbrev cB : Memref sig .scVector .vmem S16384 .f32 := Memref.whole cc1_scratch1
abbrev oB : Memref sig .scVector .vmem S2x4x2x2x1024 .f32 := Memref.whole cc1_scratch2

/-- The semaphore the slot's fetches complete on, and the one its write-backs complete on. -/
abbrev sIn (sl : Fin 2) : DmaSems sig S_ := ![cc1_scratch3, cc1_scratch5] sl
abbrev sOut (sl : Fin 2) : DmaSems sig S_ := ![cc1_scratch4, cc1_scratch6] sl

/-- A task's program. -/
abbrev TP (L : grid1.Coords) (α : Type) : Type 1 :=
  Prog (TpuEff nD τ sig (Elt F) Λ₀ (.scVector ((L 0).castLE hcore1) ((L 1).castLE hsub1))) α

/-! ## The words the body computes with -/

abbrev slW (sl : Fin 2) : BitVec 32 := BitVec.ofNat 32 sl.val
/-- The strip `2 t + sl`. -/
def stripW (sl : Fin 2) (t : Fin k1_t1_loop.trips) : BitVec 32 :=
  Scalar.addi (Scalar.muli (Scf.iv 0#32 1#32 t) 2#32) (slW sl)
/-- The task's first row. -/
def baseW (L : grid1.Coords) : BitVec 32 :=
  Scalar.muli (Scalar.addi (Scalar.muli (BitVec.ofNat 32 (L 1).val) 2#32) (BitVec.ofNat 32 (L 0).val)) 128#32
/-- The chunk's first lane, `16 k`. -/
def laneW (k : Fin k1_t2_loop.trips) : BitVec 32 :=
  Scalar.muli (Scalar.addi 0#32 (Scalar.muli (Scf.iv 0#32 1#32 k) 1#32)) 16#32

theorem laneW_nat : ∀ k : Fin k1_t2_loop.trips, (Scalar.indexCast (laneW k)).toNat = 16 * k.val := by decide +kernel

theorem trips2 : k1_t2_loop.trips = 64 := by decide +kernel
theorem trips1 : k1_t1_loop.trips = 16 := by decide +kernel

def chunkOff (sl : Fin 2) (r : Fin 4) (c : Fin 2) (h : ℕ) (k : Fin k1_t2_loop.trips) : Fin 5 → ℕ :=
  ![sl.val, r.val, c.val, h, (Scalar.indexCast (laneW k)).toNat]

theorem chunkOff_eq (sl : Fin 2) (r : Fin 4) (c : Fin 2) (h : ℕ) (k : Fin k1_t2_loop.trips) :
    chunkOff sl r c h k = ![sl.val, r.val, c.val, h, 16 * k.val] := by
  unfold chunkOff; rw [laneW_nat]

theorem xOff_inb (sl : Fin 2) (r : Fin 4) (c : Fin 2) (h : Fin 4) (k : Fin k1_t2_loop.trips) :
    ∀ a, chunkOff sl r c h.val k a + S1x1x1x1x16.size a ≤ S2x4x2x4x1024.size a := by
  intro a
  have hk : k.val < 64 := trips2 ▸ k.isLt
  rw [chunkOff_eq]
  match a with
  | ⟨0, _⟩ => show sl.val + 1 ≤ 2; omega
  | ⟨1, _⟩ => show r.val + 1 ≤ 4; omega
  | ⟨2, _⟩ => show c.val + 1 ≤ 2; omega
  | ⟨3, _⟩ => show h.val + 1 ≤ 4; omega
  | ⟨4, _⟩ => show 16 * k.val + 16 ≤ 1024; omega

theorem oOff_inb (sl : Fin 2) (r : Fin 4) (c : Fin 2) (s : Fin 2) (k : Fin k1_t2_loop.trips) :
    ∀ a, chunkOff sl r c s.val k a + S1x1x1x1x16.size a ≤ S2x4x2x2x1024.size a := by
  intro a
  have hk : k.val < 64 := trips2 ▸ k.isLt
  rw [chunkOff_eq]
  match a with
  | ⟨0, _⟩ => show sl.val + 1 ≤ 2; omega
  | ⟨1, _⟩ => show r.val + 1 ≤ 4; omega
  | ⟨2, _⟩ => show c.val + 1 ≤ 2; omega
  | ⟨3, _⟩ => show s.val + 1 ≤ 2; omega
  | ⟨4, _⟩ => show 16 * k.val + 16 ≤ 1024; omega

theorem slot_inb_x (sl : Fin 2) : ∀ a, (![sl.val, 0, 0, 0, 0] : Fin 5 → ℕ) a + S1x4x2x4x1024.size a ≤ S2x4x2x4x1024.size a := by
  match sl with
  | 0 => exact inb_S2x4x2x4x1024_S1x4x2x4x1024_0_0_0_0_0
  | 1 => exact inb_S2x4x2x4x1024_S1x4x2x4x1024_1_0_0_0_0

theorem slot_inb_o (sl : Fin 2) : ∀ a, (![sl.val, 0, 0, 0, 0] : Fin 5 → ℕ) a + S1x4x2x2x1024.size a ≤ S2x4x2x2x1024.size a := by
  match sl with
  | 0 => exact inb_S2x4x2x2x1024_S1x4x2x2x1024_0_0_0_0_0
  | 1 => exact inb_S2x4x2x2x1024_S1x4x2x2x1024_1_0_0_0_0

/-- The slot of the fetch ring, and of the write-back ring. -/
abbrev xSlot (sl : Fin 2) : Memref sig .scVector .vmem S4x2x4x1024 .f32 :=
  (xB.slice (Rect.unit (s := S2x4x2x4x1024) ![sl.val, 0, 0, 0, 0] S1x4x2x4x1024.size (slot_inb_x sl)) (fun _ => rfl)).squeeze
    S4x2x4x1024 squeezes_S1x4x2x4x1024_S4x2x4x1024
abbrev oSlot (sl : Fin 2) : Memref sig .scVector .vmem S4x2x2x1024 .f32 :=
  (oB.slice (Rect.unit (s := S2x4x2x2x1024) ![sl.val, 0, 0, 0, 0] S1x4x2x2x1024.size (slot_inb_o sl)) (fun _ => rfl)).squeeze
    S4x2x2x1024 squeezes_S1x4x2x2x1024_S4x2x2x1024

/-- Four rows of the operand, and of the result, at given offsets. -/
abbrev xRows (off : Fin 4 → ℕ) (h : ∀ a, off a + S4x2x4x1024.size a ≤ S4096x2x4x1024.size a) :
    Memref sig .scVector .hbm S4x2x4x1024 .f32 :=
  xA.slice (Rect.unit (s := S4096x2x4x1024) off S4x2x4x1024.size h) (fun _ => rfl)
abbrev oRows (off : Fin 4 → ℕ) (h : ∀ a, off a + S4x2x2x1024.size a ≤ S4096x2x2x1024.size a) :
    Memref sig .scVector .hbm S4x2x2x1024 .f32 :=
  oA.slice (Rect.unit (s := S4096x2x2x1024) off S4x2x2x1024.size h) (fun _ => rfl)

/-! ## The chunk -/

/-- One sum of products: `Σ_h coef_h · x_h`, the products in order. -/
def dotv (c0 c1 c2 c3 : FVec F S16 .f32) (x0 x1 x2 x3 : Vec F S1x1x1x1x16 .f32) : FVec F S1x1x1x1x16 .f32 :=
  shapeCast S1x1x1x1x16
    (addf (addf (addf (mulf c0 (shapeCast S16 x0 shapeCasts_S1x1x1x1x16_S16)) (mulf c1 (shapeCast S16 x1 shapeCasts_S1x1x1x1x16_S16)))
      (mulf c2 (shapeCast S16 x2 shapeCasts_S1x1x1x1x16_S16))) (mulf c3 (shapeCast S16 x3 shapeCasts_S1x1x1x1x16_S16)))
    shapeCasts_S16_S1x1x1x1x16

def ldx (L : grid1.Coords) (sl : Fin 2) (r : Fin 4) (c : Fin 2) (h : Fin 4) (k : Fin k1_t2_loop.trips) :
    TP (F := F) L (Vec F S1x1x1x1x16 .f32) :=
  Prog.lift (.load xB (Rect.unit (s := S2x4x2x4x1024) (chunkOff sl r c h.val k) S1x1x1x1x16.size (xOff_inb sl r c h k)).toLoadRect
    (View.loadsAt_vmem h_S1x1x1x1x16))

def sto (L : grid1.Coords) (sl : Fin 2) (r : Fin 4) (c : Fin 2) (s : Fin 2) (k : Fin k1_t2_loop.trips)
    (w : Vec F S1x1x1x1x16 .f32) : TP (F := F) L PUnit := do
  let _ ← Prog.lift (.load oB (Rect.unit (s := S2x4x2x2x1024) (chunkOff sl r c s.val k) S1x1x1x1x16.size (oOff_inb sl r c s k)).toLoadRect
    (View.loadsAt_vmem h_S1x1x1x1x16))
  Prog.lift (.store oB (Rect.unit (s := S2x4x2x2x1024) (chunkOff sl r c s.val k) S1x1x1x1x16.size (oOff_inb sl r c s k)) w Finset.univ
    (View.stores_vmem_bits_univ h_S1x1x1x1x16 rfl) (.inl rfl))

/-- The chunk at one `c`: four vectors of the operand, two sums stored. -/
def chunkC (L : grid1.Coords) (sl : Fin 2) (r : Fin 4) (cf : Fin 2 → Fin 4 → FVec F S16 .f32) (k : Fin k1_t2_loop.trips) (c : Fin 2) :
    TP (F := F) L PUnit := do
  let x0 ← ldx L sl r c 0 k
  let x1 ← ldx L sl r c 1 k
  let x2 ← ldx L sl r c 2 k
  let x3 ← ldx L sl r c 3 k
  sto L sl r c 0 k (dotv (cf 0 0) (cf 0 1) (cf 0 2) (cf 0 3) x0 x1 x2 x3)
  sto L sl r c 1 k (dotv (cf 1 0) (cf 1 1) (cf 1 2) (cf 1 3) x0 x1 x2 x3)

def chunk (L : grid1.Coords) (sl : Fin 2) (r : Fin 4) (cf : Fin 2 → Fin 4 → FVec F S16 .f32) (k : Fin k1_t2_loop.trips) (_ : Unit) :
    TP (F := F) L Unit := do
  chunkC L sl r cf k 0
  chunkC L sl r cf k 1
  pure ⟨⟩

/-! ## The row -/

def ldc (L : grid1.Coords) (sl : Fin 2) (r : Fin 4) (j : Fin 8) (t : Fin k1_t1_loop.trips) : TP (F := F) L (Vec F S16 .f32) :=
  Prog.lift (.load cB (Rect.unit (s := S16384) (k1_off5 t (BitVec.ofNat 32 sl.val) (BitVec.ofNat 32 r.val) (BitVec.ofNat 32 (16 * j.val))) S16.size
    (k1_off5_inb t sl r j)).toLoadRect (View.loadsAt_vmem h_S16))

abbrev sc16 (v : Vec F S16 .f32) : FVec F S16 .f32 := shapeCast S16 v shapeCasts_S16_S16

def row (L : grid1.Coords) (sl : Fin 2) (t : Fin k1_t1_loop.trips) (r : Fin 4) : TP (F := F) L Unit := do
  let c0 ← ldc L sl r 0 t
  let c1 ← ldc L sl r 1 t
  let c2 ← ldc L sl r 2 t
  let c3 ← ldc L sl r 3 t
  let c4 ← ldc L sl r 4 t
  let c5 ← ldc L sl r 5 t
  let c6 ← ldc L sl r 6 t
  let c7 ← ldc L sl r 7 t
  Scf.Loop.for k1_t2_loop k1_t2_ok ⟨⟩ (chunk L sl r (![![sc16 c0, sc16 c1, sc16 c2, sc16 c3], ![sc16 c4, sc16 c5, sc16 c6, sc16 c7]]))

/-! ## The half of a trip -/

def outCond (sl : Fin 2) (t : Fin k1_t1_loop.trips) : BitVec 1 :=
  Scalar.cmpi .ne (Scalar.extui (Scalar.cmpi .sge (stripW sl t) 2#32) : BitVec 32) 0#32
def inCond (sl : Fin 2) (t : Fin k1_t1_loop.trips) : BitVec 1 :=
  Scalar.cmpi .ne (Scalar.extui (Scalar.cmpi .slt (Scalar.addi (stripW sl t) 2#32) 32#32) : BitVec 32) 0#32
def prevOff (L : grid1.Coords) (sl : Fin 2) (t : Fin k1_t1_loop.trips) : Fin 4 → ℕ :=
  ![(Scalar.subi (Scalar.addi (baseW L) (Scalar.muli (stripW sl t) 4#32)) 8#32).toNat, 0, 0, 0]
def nextOff (L : grid1.Coords) (sl : Fin 2) (t : Fin k1_t1_loop.trips) : Fin 4 → ℕ :=
  ![(Scalar.addi (baseW L) (Scalar.muli (Scalar.addi (stripW sl t) 2#32) 4#32)).toNat, 0, 0, 0]

theorem outCond_0 (t : Fin k1_t1_loop.trips) : outCond 0 t = k1_cond1 t := rfl
theorem outCond_1 (t : Fin k1_t1_loop.trips) : outCond 1 t = k1_cond3 t := rfl
theorem inCond_0 (t : Fin k1_t1_loop.trips) : inCond 0 t = k1_cond2 t := rfl
theorem inCond_1 (t : Fin k1_t1_loop.trips) : inCond 1 t = k1_cond4 t := rfl
theorem prevOff_0 (L : grid1.Coords) (t : Fin k1_t1_loop.trips) : prevOff L 0 t = k1_off4 L t := rfl
theorem prevOff_1 (L : grid1.Coords) (t : Fin k1_t1_loop.trips) : prevOff L 1 t = k1_off56 L t := rfl
theorem nextOff_0 (L : grid1.Coords) (t : Fin k1_t1_loop.trips) : nextOff L 0 t = k1_off55 L t := rfl
theorem nextOff_1 (L : grid1.Coords) (t : Fin k1_t1_loop.trips) : nextOff L 1 t = k1_off105 L t := rfl

theorem prevOff_inb (L : grid1.Coords) (sl : Fin 2) (t : Fin k1_t1_loop.trips) (h : outCond sl t = 1#1) :
    ∀ a, prevOff L sl t a + S4x2x2x1024.size a ≤ S4096x2x2x1024.size a := by
  obtain rfl | rfl : sl = 0 ∨ sl = 1 := by omega
  · rw [outCond_0] at h; rw [prevOff_0]; exact k1_off4_inb L t h
  · rw [outCond_1] at h; rw [prevOff_1]; exact k1_off56_inb L t h
theorem nextOff_inb (L : grid1.Coords) (sl : Fin 2) (t : Fin k1_t1_loop.trips) (h : inCond sl t = 1#1) :
    ∀ a, nextOff L sl t a + S4x2x4x1024.size a ≤ S4096x2x4x1024.size a := by
  obtain rfl | rfl : sl = 0 ∨ sl = 1 := by omega
  · rw [inCond_0] at h; rw [nextOff_0]; exact k1_off55_inb L t h
  · rw [inCond_1] at h; rw [nextOff_1]; exact k1_off105_inb L t h

def waitIn (L : grid1.Coords) (sl : Fin 2) (t : Fin k1_t1_loop.trips) : TP (F := F) L PUnit :=
  Prog.lift (.waitDma2 (sIn sl).sem (xRows (k1_off3 L t (slW sl)) (k1_off3_inb L t sl)) (xSlot sl)
    (View.wordExact_bits rfl) ((View.wordExact_bits rfl).reshape _ _))

def waitOut (L : grid1.Coords) (sl : Fin 2) (t : Fin k1_t1_loop.trips) : TP (F := F) L PUnit :=
  if h : outCond sl t = 1#1 then
    Prog.lift (.waitDma2 (sOut sl).sem (oSlot sl) (oRows (prevOff L sl t) (prevOff_inb L sl t h))
      ((View.wordExact_bits rfl).reshape _ _) (View.wordExact_bits rfl))
  else pure ⟨⟩

def issueOut (L : grid1.Coords) (sl : Fin 2) (t : Fin k1_t1_loop.trips) : TP (F := F) L PUnit :=
  Prog.lift (.enqueueDma (oSlot sl) (.here (oRows (k1_off54 L t (slW sl)) (k1_off54_inb L t sl))) (.dma (sOut sl).sem)
    ((View.wordExact_bits rfl).reshape _ _) (View.wordExact_bits rfl) ⟨Or.inl rfl, trivial⟩)

def issueIn (L : grid1.Coords) (sl : Fin 2) (t : Fin k1_t1_loop.trips) : TP (F := F) L PUnit :=
  if h : inCond sl t = 1#1 then
    Prog.lift (.enqueueDma (xRows (nextOff L sl t) (nextOff_inb L sl t h)) (.here (xSlot sl)) (.dma (sIn sl).sem)
      (View.wordExact_bits rfl) ((View.wordExact_bits rfl).reshape _ _) ⟨Or.inl rfl, trivial⟩)
  else pure ⟨⟩

def half (L : grid1.Coords) (sl : Fin 2) (t : Fin k1_t1_loop.trips) : TP (F := F) L PUnit := do
  waitIn L sl t
  waitOut L sl t
  row L sl t 0
  row L sl t 1
  row L sl t 2
  row L sl t 3
  issueOut L sl t
  issueIn L sl t

def trip (L : grid1.Coords) (t : Fin k1_t1_loop.trips) (_ : Unit) : TP (F := F) L Unit := do
  half L 0 t
  half L 1 t
  pure ⟨⟩

/-! ## The body -/

def fetchC (L : grid1.Coords) : TP (F := F) L PUnit := do
  Prog.lift (.enqueueDma (cA.slice (Rect.unit (s := S524288) (k1_off1 L) S16384.size (k1_off1_inb L)) (fun _ => rfl)) (.here cB)
    (.dma cc1_scoped0.sem) (View.wordExact_bits rfl) (Memref.isWhole_whole _).wordExact ⟨Or.inl rfl, trivial⟩)
  Prog.lift (.waitDma2 cc1_scoped0.sem (cA.slice (Rect.unit (s := S524288) (k1_off1 L) S16384.size (k1_off1_inb L)) (fun _ => rfl)) cB
    (View.wordExact_bits rfl) (Memref.isWhole_whole _).wordExact)

def firstIn (L : grid1.Coords) (sl : Fin 2) : TP (F := F) L PUnit :=
  Prog.lift (.enqueueDma (xRows (k1_off2 L (BitVec.ofNat 32 (4 * sl.val))) (k1_off2_inb L sl)) (.here (xSlot sl)) (.dma (sIn sl).sem)
    (View.wordExact_bits rfl) ((View.wordExact_bits rfl).reshape _ _) ⟨Or.inl rfl, trivial⟩)

def lastOut (L : grid1.Coords) (sl : Fin 2) : TP (F := F) L PUnit :=
  Prog.lift (.waitDma2 (sOut sl).sem (oSlot sl) (oRows (k1_off106 L (BitVec.ofNat 32 (120 + 4 * sl.val))) (k1_off106_inb L sl))
    ((View.wordExact_bits rfl).reshape _ _) (View.wordExact_bits rfl))

def body (L : grid1.Coords) : TP (F := F) L PUnit := do
  fetchC L
  firstIn L 0
  firstIn L 1
  Scf.Loop.for k1_t1_loop k1_t1_ok ⟨⟩ (trip L)
  lastOut L 0
  lastOut L 1

end Cert.Proof.Sc

end
-- ==== Proof.ScIdx.lean ====
/-
  Where the tile kernel's views place an index, and the function of the operand and the coefficient table the kernel
  leaves in the result (`tgt`).
-/
module

public import proofs.«01_k».proof.Proof.ScProg
public import Idealize.ShloMosaic.Lib.PointwiseCore

@[expose] public section

noncomputable section

namespace Cert.Proof.Sc

open Cert.KernelIdeal Cert.KernelIdeal.Gen
open Idealize.ShloMosaic Idealize.SL.Sem

variable {F : FTy → Type} [FloatOps F]

/-! ## The slots -/

theorem xSlot_emb (sl : Fin 2) (r : Fin 4) (c : Fin 2) (h : Fin 4) (w : Fin 1024) :
    (xSlot sl).view.emb (ix4 r c h w) = ix5 sl r c h w := by
  show (Rect.unit (s := S2x4x2x4x1024) ![sl.val, 0, 0, 0, 0] S1x4x2x4x1024.size (slot_inb_x sl)).emb
    (Shape.reshapeEquiv squeezes_S1x4x2x4x1024_S4x2x4x1024.numel_eq (ix4 r c h w)) = _
  pointwise
  funext a
  apply Fin.ext
  rw [Rect.emb_apply]
  match a with
  | ⟨0, _⟩ => show sl.val + 1 * 0 = sl.val; omega
  | ⟨1, _⟩ => show 0 + 1 * r.val = r.val; omega
  | ⟨2, _⟩ => show 0 + 1 * c.val = c.val; omega
  | ⟨3, _⟩ => show 0 + 1 * h.val = h.val; omega
  | ⟨4, _⟩ => show 0 + 1 * w.val = w.val; omega

theorem oSlot_emb (sl : Fin 2) (r : Fin 4) (c : Fin 2) (s : Fin 2) (w : Fin 1024) :
    (oSlot sl).view.emb (ix4 r c s w) = ix5 sl r c s w := by
  show (Rect.unit (s := S2x4x2x2x1024) ![sl.val, 0, 0, 0, 0] S1x4x2x2x1024.size (slot_inb_o sl)).emb
    (Shape.reshapeEquiv squeezes_S1x4x2x2x1024_S4x2x2x1024.numel_eq (ix4 r c s w)) = _
  pointwise
  funext a
  apply Fin.ext
  rw [Rect.emb_apply]
  match a with
  | ⟨0, _⟩ => show sl.val + 1 * 0 = sl.val; omega
  | ⟨1, _⟩ => show 0 + 1 * r.val = r.val; omega
  | ⟨2, _⟩ => show 0 + 1 * c.val = c.val; omega
  | ⟨3, _⟩ => show 0 + 1 * s.val = s.val; omega
  | ⟨4, _⟩ => show 0 + 1 * w.val = w.val; omega

theorem mem_xSlot (sl : Fin 2) (r : Fin 4) (c : Fin 2) (h : Fin 4) (w : Fin 1024) : ix5 sl r c h w ∈ (xSlot sl).view.set := by
  rw [← xSlot_emb]; exact View.emb_mem_set _ _
theorem mem_oSlot (sl : Fin 2) (r : Fin 4) (c : Fin 2) (s : Fin 2) (w : Fin 1024) : ix5 sl r c s w ∈ (oSlot sl).view.set := by
  rw [← oSlot_emb]; exact View.emb_mem_set _ _

theorem ex4x (j : S4x2x4x1024.Idx) : ∃ (r : Fin 4) (c : Fin 2) (h : Fin 4) (w : Fin 1024), j = ix4 r c h w := ⟨j 0, j 1, j 2, j 3, eq_ix4 j⟩
theorem ex4o (j : S4x2x2x1024.Idx) : ∃ (r : Fin 4) (c : Fin 2) (s : Fin 2) (w : Fin 1024), j = ix4 r c s w := ⟨j 0, j 1, j 2, j 3, eq_ix4 j⟩

theorem xSlot_set (sl : Fin 2) : (xSlot sl).view.set = Finset.univ.filter fun i : S2x4x2x4x1024.Idx => (i 0).val = sl.val := by
  ext i
  constructor
  · intro hi
    obtain ⟨j, -, rfl⟩ := Finset.mem_map.mp hi
    obtain ⟨r, c, h, w, rfl⟩ := ex4x j
    rw [xSlot_emb]
    exact Finset.mem_filter.mpr ⟨Finset.mem_univ _, rfl⟩
  · intro hi
    have h0 : i 0 = sl := Fin.ext (Finset.mem_filter.mp hi).2
    rw [eq_ix5 i, h0]; exact mem_xSlot _ _ _ _ _
theorem oSlot_set (sl : Fin 2) : (oSlot sl).view.set = Finset.univ.filter fun i : S2x4x2x2x1024.Idx => (i 0).val = sl.val := by
  ext i
  constructor
  · intro hi
    obtain ⟨j, -, rfl⟩ := Finset.mem_map.mp hi
    obtain ⟨r, c, s, w, rfl⟩ := ex4o j
    rw [oSlot_emb]
    exact Finset.mem_filter.mpr ⟨Finset.mem_univ _, rfl⟩
  · intro hi
    have h0 : i 0 = sl := Fin.ext (Finset.mem_filter.mp hi).2
    rw [eq_ix5 i, h0]; exact mem_oSlot _ _ _ _ _

/-! ## The rows -/

abbrev up (n : ℕ) (hn : n + 4 ≤ 4096) (r : Fin 4) : Fin 4096 := ⟨n + r.val, by omega⟩

theorem xRows_emb {off : Fin 4 → ℕ} (hin) {n : ℕ} (hoff : off = ![n, 0, 0, 0]) (hn : n + 4 ≤ 4096)
    (r : Fin 4) (c : Fin 2) (h : Fin 4) (w : Fin 1024) :
    (xRows off hin).view.emb (ix4 r c h w) = ix4 (up n hn r) c h w := by
  subst hoff
  show (Rect.unit (s := S4096x2x4x1024) ![n, 0, 0, 0] S4x2x4x1024.size hin).emb (ix4 r c h w) = _
  funext a
  apply Fin.ext
  rw [Rect.emb_apply]
  match a with
  | ⟨0, _⟩ => show n + 1 * r.val = n + r.val; omega
  | ⟨1, _⟩ => show 0 + 1 * c.val = c.val; omega
  | ⟨2, _⟩ => show 0 + 1 * h.val = h.val; omega
  | ⟨3, _⟩ => show 0 + 1 * w.val = w.val; omega

theorem oRows_emb {off : Fin 4 → ℕ} (hin) {n : ℕ} (hoff : off = ![n, 0, 0, 0]) (hn : n + 4 ≤ 4096)
    (r : Fin 4) (c : Fin 2) (s : Fin 2) (w : Fin 1024) :
    (oRows off hin).view.emb (ix4 r c s w) = ix4 (up n hn r) c s w := by
  subst hoff
  show (Rect.unit (s := S4096x2x2x1024) ![n, 0, 0, 0] S4x2x2x1024.size hin).emb (ix4 r c s w) = _
  funext a
  apply Fin.ext
  rw [Rect.emb_apply]
  match a with
  | ⟨0, _⟩ => show n + 1 * r.val = n + r.val; omega
  | ⟨1, _⟩ => show 0 + 1 * c.val = c.val; omega
  | ⟨2, _⟩ => show 0 + 1 * s.val = s.val; omega
  | ⟨3, _⟩ => show 0 + 1 * w.val = w.val; omega

/-- Rows `n .. n + 3` of the result. -/
def rowsSet (n : ℕ) : Finset S4096x2x2x1024.Idx := Finset.univ.filter fun i => n ≤ (i 0).val ∧ (i 0).val < n + 4

theorem oRows_set {off : Fin 4 → ℕ} (hin) {n : ℕ} (hoff : off = ![n, 0, 0, 0]) :
    (oRows off hin).view.set = rowsSet n := by
  subst hoff
  show ((View.whole main_v4_scv).slice (Rect.unit (s := S4096x2x2x1024) ![n, 0, 0, 0] S4x2x2x1024.size hin)).set = _
  rw [View.set_slice_whole]
  ext i
  rw [rowsSet, Finset.mem_filter]
  refine Rect.mem_set_unit.trans ⟨fun h => ⟨Finset.mem_univ _, h 0⟩, fun h a => ?_⟩
  match a with
  | ⟨0, _⟩ => exact h.2
  | ⟨1, _⟩ => exact ⟨Nat.zero_le _, by have := (i 1).isLt; show (i 1).val < 0 + 2; change (i 1).val < 2 at this; omega⟩
  | ⟨2, _⟩ => exact ⟨Nat.zero_le _, by have := (i 2).isLt; show (i 2).val < 0 + 2; change (i 2).val < 2 at this; omega⟩
  | ⟨3, _⟩ => exact ⟨Nat.zero_le _, by have := (i 3).isLt; show (i 3).val < 0 + 1024; change (i 3).val < 1024 at this; omega⟩

/-! ## The chunk's rectangles -/

abbrev lane (k : Fin k1_t2_loop.trips) (l : Fin 16) : Fin 1024 := ⟨16 * k.val + l.val, by have := k.isLt.trans_eq trips2; omega⟩

abbrev xR (sl : Fin 2) (r : Fin 4) (c : Fin 2) (h : Fin 4) (k : Fin k1_t2_loop.trips) : Rect S2x4x2x4x1024 :=
  Rect.unit (s := S2x4x2x4x1024) (chunkOff sl r c h.val k) S1x1x1x1x16.size (xOff_inb sl r c h k)
abbrev oR (sl : Fin 2) (r : Fin 4) (c : Fin 2) (s : Fin 2) (k : Fin k1_t2_loop.trips) : Rect S2x4x2x2x1024 :=
  Rect.unit (s := S2x4x2x2x1024) (chunkOff sl r c s.val k) S1x1x1x1x16.size (oOff_inb sl r c s k)

theorem xR_emb (sl : Fin 2) (r : Fin 4) (c : Fin 2) (h : Fin 4) (k : Fin k1_t2_loop.trips) (l : Fin 16) :
    (xB.access (xR sl r c h k)).emb (ix5 0 0 0 0 l) = ix5 sl r c h (lane k l) := by
  show (xR sl r c h k).emb (ix5 0 0 0 0 l) = _
  funext a
  apply Fin.ext
  rw [Rect.emb_apply]
  show chunkOff sl r c h.val k a + 1 * _ = _
  rw [chunkOff_eq]
  match a with
  | ⟨0, _⟩ => show sl.val + 1 * 0 = sl.val; omega
  | ⟨1, _⟩ => show r.val + 1 * 0 = r.val; omega
  | ⟨2, _⟩ => show c.val + 1 * 0 = c.val; omega
  | ⟨3, _⟩ => show h.val + 1 * 0 = h.val; omega
  | ⟨4, _⟩ => show 16 * k.val + 1 * l.val = 16 * k.val + l.val; omega

theorem oR_emb (sl : Fin 2) (r : Fin 4) (c : Fin 2) (s : Fin 2) (k : Fin k1_t2_loop.trips) (l : Fin 16) :
    (oB.access (oR sl r c s k)).emb (ix5 0 0 0 0 l) = ix5 sl r c s (lane k l) := by
  show (oR sl r c s k).emb (ix5 0 0 0 0 l) = _
  funext a
  apply Fin.ext
  rw [Rect.emb_apply]
  show chunkOff sl r c s.val k a + 1 * _ = _
  rw [chunkOff_eq]
  match a with
  | ⟨0, _⟩ => show sl.val + 1 * 0 = sl.val; omega
  | ⟨1, _⟩ => show r.val + 1 * 0 = r.val; omega
  | ⟨2, _⟩ => show c.val + 1 * 0 = c.val; omega
  | ⟨3, _⟩ => show s.val + 1 * 0 = s.val; omega
  | ⟨4, _⟩ => show 16 * k.val + 1 * l.val = 16 * k.val + l.val; omega

theorem eq_lane (y : S1x1x1x1x16.Idx) : ∃ l : Fin 16, y = ix5 0 0 0 0 l := by
  refine ⟨y 4, (eq_ix5 y).trans ?_⟩
  rw [Subsingleton.elim (α := Fin 1) (y 0) 0, Subsingleton.elim (α := Fin 1) (y 1) 0, Subsingleton.elim (α := Fin 1) (y 2) 0,
    Subsingleton.elim (α := Fin 1) (y 3) 0]

theorem xR_sub (sl : Fin 2) (r : Fin 4) (c : Fin 2) (h : Fin 4) (k : Fin k1_t2_loop.trips) :
    (xB.access (xR sl r c h k)).set ⊆ (xSlot sl).view.set := by
  intro i hi
  obtain ⟨y, -, rfl⟩ := Finset.mem_map.mp hi
  obtain ⟨l, rfl⟩ := eq_lane y
  rw [xR_emb]; exact mem_xSlot _ _ _ _ _
theorem oR_sub (sl : Fin 2) (r : Fin 4) (c : Fin 2) (s : Fin 2) (k : Fin k1_t2_loop.trips) :
    (oB.access (oR sl r c s k)).set ⊆ (oSlot sl).view.set := by
  intro i hi
  obtain ⟨y, -, rfl⟩ := Finset.mem_map.mp hi
  obtain ⟨l, rfl⟩ := eq_lane y
  rw [oR_emb]; exact mem_oSlot _ _ _ _ _

theorem xR_read (f : S2x4x2x4x1024.Idx → Elt F .f32) (sl : Fin 2) (r : Fin 4) (c : Fin 2) (h : Fin 4) (k : Fin k1_t2_loop.trips) (l : Fin 16) :
    (xB.access (xR sl r c h k)).read (Elt F) f (ix5 0 0 0 0 l) = f (ix5 sl r c h (lane k l)) := by
  rw [View.read_apply, xR_emb]; rfl

theorem oR_write_in (f : S2x4x2x2x1024.Idx → Elt F .f32) (v : S1x1x1x1x16.Idx → Elt F .f32)
    (sl : Fin 2) (r : Fin 4) (c : Fin 2) (s : Fin 2) (k : Fin k1_t2_loop.trips) (l : Fin 16) :
    (oB.access (oR sl r c s k)).write (Elt F) f v Finset.univ (ix5 sl r c s (lane k l)) = v (ix5 0 0 0 0 l) := by
  rw [← oR_emb, View.write_emb_of_mem _ _ (Finset.mem_univ _)]; rfl

theorem oR_write_out (f : S2x4x2x2x1024.Idx → Elt F .f32) (v : S1x1x1x1x16.Idx → Elt F .f32)
    (sl : Fin 2) (r : Fin 4) (c : Fin 2) (s : Fin 2) (k : Fin k1_t2_loop.trips) (r' : Fin 4) (c' : Fin 2) (s' : Fin 2) (w : Fin 1024)
    (h : ¬ (r' = r ∧ c' = c ∧ s' = s ∧ 16 * k.val ≤ w.val ∧ w.val < 16 * k.val + 16)) :
    (oB.access (oR sl r c s k)).write (Elt F) f v Finset.univ (ix5 sl r' c' s' w) = f (ix5 sl r' c' s' w) := by
  refine View.write_of_not_mem _ _ _ fun hm => h ?_
  obtain ⟨y, -, hy⟩ := Finset.mem_map.mp hm
  obtain ⟨l, rfl⟩ := eq_lane y
  rw [oR_emb, ix5_inj] at hy
  obtain ⟨-, rfl, rfl, rfl, rfl⟩ := hy
  exact ⟨rfl, rfl, rfl, Nat.le_add_right _ _, Nat.add_lt_add_left l.isLt _⟩

/-! ## The coefficients' scratch -/

theorem cR_read (f : S16384.Idx → Elt F .f32) (sl : Fin 2) (r : Fin 4) (j : Fin 8) (t : Fin k1_t1_loop.trips) (l : Fin 16) :
    (cB.access (Rect.unit (s := S16384) (k1_off5 t (BitVec.ofNat 32 sl.val) (BitVec.ofNat 32 r.val) (BitVec.ofNat 32 (16 * j.val))) S16.size
      (k1_off5_inb t sl r j))).read (Elt F) f (ix1 l)
      = f (ix1 ⟨1024 * t.val + 512 * sl.val + 128 * r.val + 16 * j.val + l.val, by have := t.isLt.trans_eq trips1; omega⟩) := by
  rw [View.read_apply]
  show f ((Rect.unit (s := S16384) (k1_off5 t (BitVec.ofNat 32 sl.val) (BitVec.ofNat 32 r.val) (BitVec.ofNat 32 (16 * j.val))) S16.size
      (k1_off5_inb t sl r j)).emb (ix1 l)) = _
  congr 1
  funext a
  apply Fin.ext
  rw [Rect.emb_apply]
  match a with
  | ⟨0, _⟩ =>
    show k1_off5 t (BitVec.ofNat 32 sl.val) (BitVec.ofNat 32 r.val) (BitVec.ofNat 32 (16 * j.val)) 0 + 1 * l.val = _
    rw [k1_off5_eq]
    show 1024 * t.val + 512 * sl.val + 128 * r.val + 16 * j.val + 1 * l.val = 1024 * t.val + 512 * sl.val + 128 * r.val + 16 * j.val + l.val
    omega

/-! ## What the kernel leaves in the result -/

/-- Coefficient `h` of row `b`'s output slot `s`, at lane `l` of the broadcast table. -/
def coefAt (v3 : S524288.Idx → Elt F .f32) (b : Fin 4096) (s : Fin 2) (h : Fin 4) (l : Fin 16) : F .f32 :=
  v3 (ix1 ⟨b.val * 128 + (s.val * 4 + h.val) * 16 + l.val, by omega⟩)

/-- The four products summed in order. -/
def dot4 (c x : Fin 4 → F .f32) : F .f32 :=
  FloatOps.addf (FloatOps.addf (FloatOps.addf (FloatOps.mulf (c 0) (x 0)) (FloatOps.mulf (c 1) (x 1))) (FloatOps.mulf (c 2) (x 2))) (FloatOps.mulf (c 3) (x 3))

/-- The result's element: row `b`, column block `c`, output slot `s`, lane `w`. -/
def tgtAt (x : S4096x2x4x1024.Idx → Elt F .f32) (v3 : S524288.Idx → Elt F .f32) (b : Fin 4096) (c : Fin 2) (s : Fin 2) (w : Fin 1024) : Elt F .f32 :=
  dot4 (fun h => coefAt v3 b s h ⟨w.val % 16, Nat.mod_lt _ (by decide)⟩) (fun h => x (ix4 b c h w))

def tgt (x : S4096x2x4x1024.Idx → Elt F .f32) (v3 : S524288.Idx → Elt F .f32) : S4096x2x2x1024.Idx → Elt F .f32 :=
  fun j => tgtAt x v3 (j 0) (j 1) (j 2) (j 3)

theorem dotv_apply (c0 c1 c2 c3 : FVec F S16 .f32) (x0 x1 x2 x3 : Vec F S1x1x1x1x16 .f32) (l : Fin 16) :
    dotv c0 c1 c2 c3 x0 x1 x2 x3 (ix5 0 0 0 0 l)
      = dot4 (fun h => ![c0, c1, c2, c3] h (ix1 l)) (fun h => ![x0, x1, x2, x3] h (ix5 0 0 0 0 l)) := by
  unfold dotv dot4
  pointwise

theorem sc16_apply (v : Vec F S16 .f32) (l : Fin 16) : sc16 v (ix1 l) = v (ix1 l) := by
  unfold sc16; pointwise

end Cert.Proof.Sc

end
-- ==== Proof.ScEq.lean ====
/-
  The printed tile kernel is the restated one.
-/
module

public import proofs.«01_k».proof.Proof.ScProg

@[expose] public section

noncomputable section

namespace Cert.Proof.Sc

open Cert.KernelIdeal Cert.KernelIdeal.Gen
open Idealize.ShloMosaic Idealize.SL.Sem

universe v

variable {F : FTy → Type} [FloatOps F]

theorem bcongr {E : Type → Type v} {α β : Type} {p p' : Prog E α} {f f' : α → Prog E β} (h : p = p') (hf : ∀ a, f a = f' a) :
    p >>= f = p' >>= f' := by
  subst h; exact congrArg (p >>= ·) (funext hf)

/-- What follows a conditional effect, written once. -/
theorem dite_split {E : Type → Type v} {β : Type} {c : Prop} [Decidable c] (a : c → Prog E PUnit) (r : Prog E β) :
    (if h : c then (a h >>= fun _ => r) else r) = ((if h : c then a h else pure ⟨⟩) >>= fun _ => r) := by
  by_cases h : c
  · simp only [dif_pos h]
  · simp only [dif_neg h]; rfl

set_option maxHeartbeats 4000000 in
theorem trip_eq (L : grid1.Coords) :
    k1_t1_body (F := F) L xA (Memref.isWhole_whole _) cA (Memref.isWhole_whole _) oA (Memref.isWhole_whole _) xB (Memref.isWhole_whole _)
      cB (Memref.isWhole_whole _) oB (Memref.isWhole_whole _) cc1_scratch3 cc1_scratch4 cc1_scratch5 cc1_scratch6 cc1_scoped0 (baseW L)
      = trip L := by
  funext t u
  unfold k1_t1_body trip half row waitIn waitOut issueOut issueIn ldc
  simp only [k1_part17_eq_skeleton, k1_part18_eq_skeleton, k1_part19_eq_skeleton, k1_part20_eq_skeleton, k1_part21_eq_skeleton,
    k1_part22_eq_skeleton, k1_part23_eq_skeleton, k1_part24_eq_skeleton, k1_part25_eq_skeleton]
  unfold k1_part17_skel k1_part18_skel k1_part19_skel k1_part20_skel k1_part21_skel k1_part22_skel k1_part23_skel k1_part24_skel k1_part25_skel
  simp only [dite_split, Prog.bind_assoc, Prog.bind_ret, Prog.pure_eq_ret]
  repeat (refine bcongr (by rfl) (fun _ => ?_))
  rfl

theorem body_eq (L : grid1.Coords) :
    cc1__sc_body (F := F) L xA (Memref.isWhole_whole _) cA (Memref.isWhole_whole _) oA (Memref.isWhole_whole _) xB (Memref.isWhole_whole _)
      cB (Memref.isWhole_whole _) oB (Memref.isWhole_whole _) cc1_scratch3 cc1_scratch4 cc1_scratch5 cc1_scratch6 cc1_scoped0
      = body L := by
  rw [cc1__sc_body_eq_skeleton]
  unfold cc1__sc_body_skel body fetchC firstIn lastOut
  rw [k1_part26_eq_skeleton]
  unfold k1_part26_skel
  rw [← trip_eq]
  simp only [Prog.bind_assoc, Prog.bind_ret, Prog.pure_eq_ret]
  repeat (refine bcongr (by rfl) (fun _ => ?_))
  rfl

end Cert.Proof.Sc

end
-- ==== Proof.ScBase.lean ====
/-
  The launch set-up: the program as the SparseCore launch theorem sees it, the resource algebra, the two-deep rings'
  semaphores and buffers among a vector subcore's own.
-/
module

public import proofs.«01_k».proof.Proof.ScIdx
public import proofs.«01_k».proof.Proof.ScEq
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds, the left of the right factor. -/
abbrev EP : Emb UP (MT nD τ sig (HIx 1) (Elt F) ℕ UU ℕ) := (Emb.inl : Emb UP (UP × Counters)).trans embR
/-- The transfers' counters. -/
abbrev EC : UEmb Counters (MT nD τ sig (HIx 1) (Elt F) ℕ UU ℕ) := countersEmb

/-! ## The arrays as the TensorCore names them -/

abbrev xLoc (d : Dev nD) : Loc nD τ sig := (SparseCore.T d).loc main_arg0
abbrev cLoc (d : Dev nD) : Loc nD τ sig := (SparseCore.T d).loc main_v3
abbrev oLoc (d : Dev nD) : Loc nD τ sig := (SparseCore.T d).loc main_v4

/-! ## A vector subcore's own -/

variable (d : Dev nD) (L : grid1.Coords)

abbrev cV : Fin τ.nSC := (L 0).castLE hcore1
abbrev jV : Fin τ.nSub := (L 1).castLE hsub1
/-- The subcore's thread. -/
abbrev VT : Thread nD τ := V d (cV L) (jV L)

abbrev xbLoc : Loc nD τ sig := (VT d L).loc cc1_scratch0
abbrev cbLoc : Loc nD τ sig := (VT d L).loc cc1_scratch1
abbrev obLoc : Loc nD τ sig := (VT d L).loc cc1_scratch2

/-- A DMA semaphore of the subcore. -/
abbrev dcell (s : DmaSem sig) : GSem nD τ sig := (VT d L, .dma s)

theorem dcell_own (s : DmaSem sig) (hs : (SemLoc.dma s : SemLoc sig).isScoped .scVector = true) :
    dcell d L s ∈ ownCells (VT d L) := mem_ownCells.mpr ⟨rfl, hs⟩
theorem dcell_ne {s s' : DmaSem sig} (h : s ≠ s') : dcell d L s ≠ dcell d L s' := by
  intro e; cases e; exact h rfl

/-- The subcore's semaphores that no transfer of the kernel completes on. -/
abbrev restCells : Finset (GSem nD τ sig) :=
  (((((ownCells (VT d L)).erase (dcell d L cc1_scoped0.sem)).erase (dcell d L (sIn 0).sem)).erase (dcell d L (sIn 1).sem)).erase
    (dcell d L (sOut 0).sem)).erase (dcell d L (sOut 1).sem)

theorem ownSems0_V :
    (ownSems0 (VT d L) : sProp 𝕄)
      = iprop(semVal (dcell d L cc1_scoped0.sem) 0 ∗ semVal (dcell d L (sIn 0).sem) 0 ∗ semVal (dcell d L (sIn 1).sem) 0
          ∗ semVal (dcell d L (sOut 0).sem) 0 ∗ semVal (dcell d L (sOut 1).sem) 0 ∗ bigSep (restCells d L) fun g => semVal g 0) := by
  have h0 := dcell_own d L cc1_scoped0.sem (by decide)
  have h1 := dcell_own d L (sIn 0).sem (by decide)
  have h2 := dcell_own d L (sIn 1).sem (by decide)
  have h3 := dcell_own d L (sOut 0).sem (by decide)
  have h4 := dcell_own d L (sOut 1).sem (by decide)
  have e1 := Finset.mem_erase.mpr ⟨dcell_ne d L (s := (sIn 0).sem) (s' := cc1_scoped0.sem) (by decide), h1⟩
  have e2 := Finset.mem_erase.mpr ⟨dcell_ne d L (s := (sIn 1).sem) (s' := (sIn 0).sem) (by decide),
    Finset.mem_erase.mpr ⟨dcell_ne d L (s := (sIn 1).sem) (s' := cc1_scoped0.sem) (by decide), h2⟩⟩
  have e3 := Finset.mem_erase.mpr ⟨dcell_ne d L (s := (sOut 0).sem) (s' := (sIn 1).sem) (by decide),
    Finset.mem_erase.mpr ⟨dcell_ne d L (s := (sOut 0).sem) (s' := (sIn 0).sem) (by decide),
      Finset.mem_erase.mpr ⟨dcell_ne d L (s := (sOut 0).sem) (s' := cc1_scoped0.sem) (by decide), h3⟩⟩⟩
  have e4 := Finset.mem_erase.mpr ⟨dcell_ne d L (s := (sOut 1).sem) (s' := (sOut 0).sem) (by decide),
    Finset.mem_erase.mpr ⟨dcell_ne d L (s := (sOut 1).sem) (s' := (sIn 1).sem) (by decide),
      Finset.mem_erase.mpr ⟨dcell_ne d L (s := (sOut 1).sem) (s' := (sIn 0).sem) (by decide),
        Finset.mem_erase.mpr ⟨dcell_ne d L (s := (sOut 1).sem) (s' := cc1_scoped0.sem) (by decide), h4⟩⟩⟩⟩
  unfold SparseCore.Cfg.ownSems0
  rw [SparseCore.bigSep_erase' h0, SparseCore.bigSep_erase' e1, SparseCore.bigSep_erase' e2, SparseCore.bigSep_erase' e3, SparseCore.bigSep_erase' e4]

abbrev bref (b : Ref sig .scVector) : DevRef τ sig := (Proc.scVector (cV L) (jV L)).devRef b

/-- The subcore's buffers that are no scratch of the kernel. -/
abbrev restRefs : Finset (DevRef τ sig) :=
  (((ownRefs (τ := τ) (sig := sig) (.scVector (cV L) (jV L))).erase (bref L cc1_scratch0)).erase (bref L cc1_scratch1)).erase (bref L cc1_scratch2)

theorem ownBufs_V :
    (ownBufs (VT d L) : sProp 𝕄)
      = iprop((∃ f, xbLoc d L ↦{fullShare} f) ∗ (∃ f, cbLoc d L ↦{fullShare} f) ∗ (∃ f, obLoc d L ↦{fullShare} f)
          ∗ bigSep (restRefs L) fun b => iprop(∃ f, ((d, b) : Loc nD τ sig) ↦{fullShare} f)) := by
  have ne {b b' : Ref sig .scVector} (h : b ≠ b') : bref L b ≠ bref L b' := fun e => h (Proc.devRef_injective _ e)
  have h0 : bref L cc1_scratch0 ∈ ownRefs (τ := τ) (sig := sig) (.scVector (cV L) (jV L)) := SparseCore.Cfg.mem_ownRefs_of_owner rfl
  have h1 : bref L cc1_scratch1 ∈ ownRefs (τ := τ) (sig := sig) (.scVector (cV L) (jV L)) := SparseCore.Cfg.mem_ownRefs_of_owner rfl
  have h2 : bref L cc1_scratch2 ∈ ownRefs (τ := τ) (sig := sig) (.scVector (cV L) (jV L)) := SparseCore.Cfg.mem_ownRefs_of_owner rfl
  have e1 := Finset.mem_erase.mpr ⟨ne (b := cc1_scratch1) (b' := cc1_scratch0) (by decide), h1⟩
  have e2 := Finset.mem_erase.mpr ⟨ne (b := cc1_scratch2) (b' := cc1_scratch1) (by decide),
    Finset.mem_erase.mpr ⟨ne (b := cc1_scratch2) (b' := cc1_scratch0) (by decide), h2⟩⟩
  unfold SparseCore.Cfg.ownBufs
  exact (SparseCore.bigSep_erase' h0).trans (by rw [SparseCore.bigSep_erase' e1, SparseCore.bigSep_erase' e2])

end Cert.Proof.Sc

end
-- ==== Proof.TcBody.lean ====
/-
  The coefficient kernel's body on the TensorCore: what it leaves of a block in the result's staging buffer, and its run.
-/
module

public import proofs.«01_k».proof.Proof.ScBase
public import proofs.«01_k».proof.Proof.Gen.KernelIdeal.Skeleton
public import Idealize.ShloMosaic.Lib.Pipeline.FrameBody

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## What a block's coefficients are -/

section Value

variable (X : S512x2x4x1024.Idx → Elt F .f32) (W : S2x4x1024x4.Idx → Elt F .f32)

/-- The rows' features of one channel and one line. -/
abbrev xPart (o : Fin 4 → ℕ) (h : ∀ a, o a + S512x1x1x1024.size a ≤ S512x2x4x1024.size a) : Vec F S512x1x1x1024 .f32 :=
  View.ld X (Rect.unit (s := S512x2x4x1024) o S512x1x1x1024.size h)
/-- The weights of one channel and one line. -/
abbrev wPart (o : Fin 4 → ℕ) (h : ∀ a, o a + S1x1x1024x4.size a ≤ S2x4x1024x4.size a) : Vec F S1x1x1024x4 .f32 :=
  View.ld W (Rect.unit (s := S2x4x1024x4) o S1x1x1024x4.size h)

/-- The first seven parts of the dense layer's sum. -/
def acc7 : FVec F S512x4 .f32 :=
  k0_pay5
    (k0_pay2 (xPart X ![0, 0, 0, 0] inb_S512x2x4x1024_S512x1x1x1024_0_0_0_0) (wPart W ![0, 0, 0, 0] inb_S2x4x1024x4_S1x1x1024x4_0_0_0_0)
      (xPart X ![0, 0, 1, 0] inb_S512x2x4x1024_S512x1x1x1024_0_0_1_0) (wPart W ![0, 1, 0, 0] inb_S2x4x1024x4_S1x1x1024x4_0_1_0_0)
      (xPart X ![0, 0, 2, 0] inb_S512x2x4x1024_S512x1x1x1024_0_0_2_0) (wPart W ![0, 2, 0, 0] inb_S2x4x1024x4_S1x1x1024x4_0_2_0_0))
    (k0_pay3 (xPart X ![0, 0, 3, 0] inb_S512x2x4x1024_S512x1x1x1024_0_0_3_0)) (k0_pay4 (wPart W ![0, 3, 0, 0] inb_S2x4x1024x4_S1x1x1024x4_0_3_0_0))
    (xPart X ![0, 1, 0, 0] inb_S512x2x4x1024_S512x1x1x1024_0_1_0_0) (wPart W ![1, 0, 0, 0] inb_S2x4x1024x4_S1x1x1024x4_1_0_0_0)
    (xPart X ![0, 1, 1, 0] inb_S512x2x4x1024_S512x1x1x1024_0_1_1_0) (wPart W ![1, 1, 0, 0] inb_S2x4x1024x4_S1x1x1024x4_1_1_0_0)
    (xPart X ![0, 1, 2, 0] inb_S512x2x4x1024_S512x1x1x1024_0_1_2_0) (wPart W ![1, 2, 0, 0] inb_S2x4x1024x4_S1x1x1024x4_1_2_0_0)
/-- The last part's features and weights. -/
def x8 : FVec F S512x1024 .f32 := k0_pay6 (xPart X ![0, 1, 3, 0] inb_S512x2x4x1024_S512x1x1x1024_0_1_3_0)
def w8 : FVec F S1024x4 .f32 := k0_pay7 (wPart W ![1, 3, 0, 0] inb_S2x4x1024x4_S1x1x1024x4_1_3_0_0)

/-- Line `h`'s place among the lines above the median first, then the others; -/
def rankA : Fin 4 → IVec S512x1 32 :=
  fun
  | 0 => k0_pay30 (acc7 X W) (x8 X) (w8 W)
  | 1 => k0_pay31 (k0_pay15 (acc7 X W) (x8 X) (w8 W)) (k0_pay24 (acc7 X W) (x8 X) (w8 W)) (k0_pay25 (acc7 X W) (x8 X) (w8 W)) (k0_pay28 (acc7 X W) (x8 X) (w8 W))
  | 2 => k0_pay32 (k0_pay16 (acc7 X W) (x8 X) (w8 W)) (k0_pay26 (acc7 X W) (x8 X) (w8 W)) (k0_pay27 (acc7 X W) (x8 X) (w8 W)) (k0_pay28 (acc7 X W) (x8 X) (w8 W))
  | 3 => k0_pay33 (k0_pay17 (acc7 X W) (x8 X) (w8 W)) (k0_pay28 (acc7 X W) (x8 X) (w8 W)) (k0_pay29 (acc7 X W) (x8 X) (w8 W))
/-- and among the lines not above it first. -/
def rankD : Fin 4 → IVec S512x1 32 :=
  fun
  | 0 => k0_pay34 (k0_pay14 (acc7 X W) (x8 X) (w8 W)) (k0_pay22 (acc7 X W) (x8 X) (w8 W)) (k0_pay23 (acc7 X W) (x8 X) (w8 W)) (k0_pay29 (acc7 X W) (x8 X) (w8 W))
  | 1 => k0_pay35 (k0_pay15 (acc7 X W) (x8 X) (w8 W)) (k0_pay24 (acc7 X W) (x8 X) (w8 W)) (k0_pay25 (acc7 X W) (x8 X) (w8 W)) (k0_pay29 (acc7 X W) (x8 X) (w8 W))
  | 2 => k0_pay36 (k0_pay16 (acc7 X W) (x8 X) (w8 W)) (k0_pay26 (acc7 X W) (x8 X) (w8 W)) (k0_pay27 (acc7 X W) (x8 X) (w8 W)) (k0_pay29 (acc7 X W) (x8 X) (w8 W))
  | 3 => k0_pay37 (k0_pay17 (acc7 X W) (x8 X) (w8 W)) (k0_pay28 (acc7 X W) (x8 X) (w8 W)) (k0_pay29 (acc7 X W) (x8 X) (w8 W))

/-- The stores, the last one first. -/
def coefPieces : List (View.Piece (Elt F) S512x2x4x16 .f32) :=
  [⟨Rect.unit ![0, 1, 3, 0] S512x1x1x16.size inb_S512x2x4x16_S512x1x1x16_0_1_3_0, k0_pay1 (k0_pay48 (rankA X W 3) (rankD X W 3))⟩,
    ⟨Rect.unit ![0, 1, 2, 0] S512x1x1x16.size inb_S512x2x4x16_S512x1x1x16_0_1_2_0, k0_pay47 (rankA X W 2) (rankD X W 2)⟩,
    ⟨Rect.unit ![0, 1, 1, 0] S512x1x1x16.size inb_S512x2x4x16_S512x1x1x16_0_1_1_0, k0_pay46 (rankD X W 1) (k0_pay45 (rankA X W 1))⟩,
    ⟨Rect.unit ![0, 1, 0, 0] S512x1x1x16.size inb_S512x2x4x16_S512x1x1x16_0_1_0_0, k0_pay44 (rankA X W 0) (rankD X W 0)⟩,
    ⟨Rect.unit ![0, 0, 3, 0] S512x1x1x16.size inb_S512x2x4x16_S512x1x1x16_0_0_3_0, k0_pay43 (rankA X W 3) (rankD X W 3)⟩,
    ⟨Rect.unit ![0, 0, 2, 0] S512x1x1x16.size inb_S512x2x4x16_S512x1x1x16_0_0_2_0, k0_pay42 (k0_pay41 (rankA X W 2) (rankD X W 2))⟩,
    ⟨Rect.unit ![0, 0, 1, 0] S512x1x1x16.size inb_S512x2x4x16_S512x1x1x16_0_0_1_0, k0_pay40 (rankA X W 1) (rankD X W 1)⟩,
    ⟨Rect.unit ![0, 0, 0, 0] S512x1x1x16.size inb_S512x2x4x16_S512x1x1x16_0_0_0_0, k0_pay39 (rankD X W 0) (k0_pay38 (rankA X W 0))⟩]

/-- The block of coefficients the stores leave. -/
def coefBlk : S512x2x4x16.Idx → Elt F .f32 := View.canon (coefPieces X W)

end Value

/-! ## The body's run -/

abbrev Bf (c : Dev nD) {sp : Space} {S : Shape} {e : EltTy} (M : Memref sig .tc sp S e) : Type := Buf (Elt F) (M.view.loc (τ := τ) (T c))
abbrev pt (c : Dev nD) {sp : Space} {S : Shape} {e : EltTy} (M : Memref sig .tc sp S e) (f : Bf (F := F) c M) : sProp 𝕄 :=
  M.view.loc (τ := τ) (T c) ↦{fullShare} f

/-- What the body leaves in the result's buffer, with the proof that from its three buffers held whole it runs to its
    return, handing back the features' and the weights' as they were. -/
def coefRun (c : Dev nD) (i : grid0.Coords) (M0 : Memref sig .tc .vmem S512x2x4x1024 .f32) (h0 : M0.IsWhole) (M1 : Memref sig .tc .vmem S2x4x1024x4 .f32) (h1 : M1.IsWhole)
    (M2 : Memref sig .tc .vmem S512x2x4x16 .f32) (h2 : M2.IsWhole)
    (f0 : Bf (F := F) c M0) (f1 : Bf (F := F) c M1) (f2 : Bf (F := F) c M2) :
    { W : Bf (F := F) c M2 // ∀ (Q : PUnit → sProp 𝕄),
        iprop(pt c M0 f0 ∗ pt c M1 f1 ∗ pt c M2 f2 ∗ (iprop(pt c M0 f0 ∗ pt c M1 f1 ∗ pt c M2 W) -∗ Q ⟨⟩))
          ⊢ wp frame (wpE (defs₀ (F := F)) 𝒱₀ (T c) none) Set.univ (cc0__coef_body i M0 h0 M1 h1 M2 h2) Q } := by
  refine ⟨?_, fun Q => ?run⟩
  case run =>
    rw [cc0__coef_body_eq_skeleton]
    unfold cc0__coef_body_skel
    rw [k0_part1_eq_skeleton, k0_part2_eq_skeleton, k0_part3_eq_skeleton, k0_part4_eq_skeleton, k0_part5_eq_skeleton,
      k0_part6_eq_skeleton, k0_part7_eq_skeleton]
    iintro ⟨H0, H1, H2, Hk⟩
    sl_exec!
    sl_step
    iapply Hk
    isplitl [H0]; · iexact H0
    isplitl [H1]; · iexact H1
    iexact H2

section Named

variable (c : Dev nD) (M0 : Memref sig .tc .vmem S512x2x4x1024 .f32) (M1 : Memref sig .tc .vmem S2x4x1024x4 .f32) (f0 : Bf (F := F) c M0) (f1 : Bf (F := F) c M1)

theorem run_acc7 : coefRun.sl.r_3 c M0 M1 f0 f1 = acc7 (M0.view.read (Elt F) f0) (M1.view.read (Elt F) f1) := rfl
theorem run_x8 : coefRun.sl.r_4 c M0 f0 = x8 (M0.view.read (Elt F) f0) := rfl
theorem run_w8 : coefRun.sl.r_5 c M1 f1 = w8 (M1.view.read (Elt F) f1) := rfl
theorem run_pieces : coefRun.sl.H2_8 c M0 M1 f0 f1 = coefPieces (M0.view.read (Elt F) f0) (M1.view.read (Elt F) f1) := by
  delta coefRun.sl.H2_8
  delta coefRun.sl.r_25 coefRun.sl.r_24 coefRun.sl.r_23 coefRun.sl.r_22
  delta coefRun.sl.r_21 coefRun.sl.r_20 coefRun.sl.r_19 coefRun.sl.r_18
  delta coefRun.sl.r_17 coefRun.sl.r_16 coefRun.sl.r_15 coefRun.sl.r_14 coefRun.sl.r_13 coefRun.sl.r_12 coefRun.sl.r_11 coefRun.sl.r_10 coefRun.sl.r_9 coefRun.sl.r_8 coefRun.sl.r_7 coefRun.sl.r_6
  simp only [run_acc7, run_x8, run_w8, coefPieces, rankA, rankD]
  rfl

end Named

theorem coefRun_val (c : Dev nD) (i : grid0.Coords) (M0 : Memref sig .tc .vmem S512x2x4x1024 .f32) (h0 : M0.IsWhole) (M1 : Memref sig .tc .vmem S2x4x1024x4 .f32) (h1 : M1.IsWhole)
    (M2 : Memref sig .tc .vmem S512x2x4x16 .f32) (h2 : M2.IsWhole)
    (f0 : Bf (F := F) c M0) (f1 : Bf (F := F) c M1) (f2 : Bf (F := F) c M2) :
    (coefRun c i M0 h0 M1 h1 M2 h2 f0 f1 f2).1
      = M2.view.writes (Elt F) M2.view.junk (coefPieces (M0.view.read (Elt F) f0) (M1.view.read (Elt F) f1)) :=
  congrArg (M2.view.writes (Elt F) M2.view.junk) (run_pieces c M0 M1 f0 f1)

/-- The body from its three buffers at what they read. -/
theorem coef_body (c : Dev nD) (i : grid0.Coords) (M0 : Memref sig .tc .vmem S512x2x4x1024 .f32) (h0 : M0.IsWhole) (M1 : Memref sig .tc .vmem S2x4x1024x4 .f32) (h1 : M1.IsWhole)
    (M2 : Memref sig .tc .vmem S512x2x4x16 .f32) (h2 : M2.IsWhole)
    (X : S512x2x4x1024.Idx → Elt F .f32) (W : S2x4x1024x4.Idx → Elt F .f32) (O : S512x2x4x16.Idx → Elt F .f32) (Q : PUnit → sProp 𝕄) :
    iprop(owns (T c) M0 fullShare X ∗ owns (T c) M1 fullShare W ∗ owns (T c) M2 fullShare O
        ∗ (iprop(owns (T c) M0 fullShare X ∗ owns (T c) M1 fullShare W ∗ owns (T c) M2 fullShare (coefBlk X W)) -∗ Q ⟨⟩))
      ⊢ wp frame (wpE (defs₀ (F := F)) 𝒱₀ (T c) none) Set.univ (cc0__coef_body i M0 h0 M1 h1 M2 h2) Q := by
  unfold owns
  rw [h0.set_eq_univ, h1.set_eq_univ, h2.set_eq_univ]
  iintro ⟨⟨%f0, %e0, H0⟩, ⟨%f1, %e1, H1⟩, ⟨%f2, -, H2⟩, Hk⟩
  iapply ((coefRun c i M0 h0 M1 h1 M2 h2 f0 f1 f2).2 Q)
  isplitl [H0]; · iexact H0
  isplitl [H1]; · iexact H1
  isplitl [H2]; · iexact H2
  iintro ⟨H0, H1, H2⟩
  iapply Hk
  isplitl [H0]
  · iexists f0; isplitr; · ipureintro; exact e0
    iexact H0
  isplitl [H1]
  · iexists f1; isplitr; · ipureintro; exact e1
    iexact H1
  iexists (coefRun c i M0 h0 M1 h1 M2 h2 f0 f1 f2).1
  isplitr
  · ipureintro
    rw [coefRun_val, View.read_writes_junk_eq_canon, e0, e1]
    rfl
  iexact H2

end Cert.Proof.Sc

end
-- ==== Proof.TcRegion.lean ====
/-
  The coefficient kernel as a region of @main: its proof data over the launch's eight blocks, and the region's step from
  the three arrays it names, the core owing what the SparseCore call to come makes it owe.
-/
module

public import proofs.«01_k».proof.Proof.TcBody
public import proofs.«01_k».proof.Proof.Gen.KernelIdeal.Launch
public import Idealize.ShloMosaic.Lib.Pipeline.RegionArrays

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.TcCoe
open Idealize.ShloMosaic.Rounds
open Idealize.ShloMosaic.Pipeline (Dat Cfg Window BodyObligation)

variable {F : FTy → Type} [FloatOps F]

local notation "𝕄" => MT nD τ sig (HIx 1) (Elt F) ℕ UU ℕ

/-- The packed weights' array, and the coefficients'. -/
abbrev wLoc (c : Dev nD) : Loc nD τ sig := (SparseCore.T c).loc main_v1
abbrev kLoc (c : Dev nD) : Loc nD τ sig := (SparseCore.T c).loc main_v2

/-- The region's three arrays as the core finds them: the features, the packed weights, the coefficients' array. -/
structure TcAt (F : FTy → Type) where
  x (c : Dev nD) : Buf (Elt F) (xLoc c)
  w (c : Dev nD) : Buf (Elt F) (wLoc c)
  g (c : Dev nD) : Buf (Elt F) (kLoc c)

variable (B : TcAt F)

/-- The features' block at a point, and the weights'. -/
abbrev xBlk (c : Dev nD) (t : Fin cfg0.N) : (cfg0.win 0).block.Idx → Elt F (cfg0.win 0).elt :=
  ((cfg0.win 0).blk t).view.read (Elt F) (B.x c)
abbrev wBlk (c : Dev nD) (t : Fin cfg0.N) : (cfg0.win 1).block.Idx → Elt F (cfg0.win 1).elt :=
  ((cfg0.win 1).blk t).view.read (Elt F) (B.w c)

/-- What the core may have waited on before the call. -/
abbrev early (c : Dev nD) : Set (SemLoc sig × HIx 1) := {p | (K (F := F)).lev (SparseCore.T c, p.1) p.2 ≤ 0}

/-- The invariant: the scoped buffers no window stages. -/
abbrev Φc (c : Dev nD) : sProp 𝕄 := Pipeline.scopedRest (Ix := HIx 1) (Name := ℕ) (U := UU) (Lvl := ℕ) (Val := Elt F) spec0 c

/-- The region's proof data. -/
def tdat (c : Dev nD) : Dat τ (Elt F) (HIx 1) ℕ UU ℕ cfg0 c where
  A w := match w with
    | ⟨0, _⟩ => B.x c
    | ⟨1, _⟩ => B.w c
    | ⟨2, _⟩ => B.g c
  after w t := match w with
    | ⟨0, _⟩ => xBlk B c t
    | ⟨1, _⟩ => wBlk B c t
    | ⟨2, _⟩ => coefBlk (xBlk B c t) (wBlk B c t)
  Φ _ := Φc c
  q _ := fullShare
  owed _ := (K (F := F)).Otc c 0
  recorded _ := early (F := F) c

abbrev adm (p : Fin 1) : (pcfgs (F := F) p).Adm := (cfgs p).toPCfg_adm

/-- The program's pipelines' proof data: this one's. -/
def pdats : (p : Fin 1) → (c : Dev nD) → Dat τ (Elt F) (HIx 1) ℕ UU ℕ (Pipeline.pin (pcfgs (F := F)) adm p) c
  | ⟨0, _⟩ => fun c => tdat B c

theorem before_x (c : Dev nD) (t : Fin cfg0.N) (d) : (tdat B c).before 0 t d = xBlk B c t :=
  (tdat B c).before_in_eq_fetched 0 rfl (fun _ => rfl) (fun _ _ _ => rfl) (fun _ => rfl) t d
theorem before_w (c : Dev nD) (t : Fin cfg0.N) (d) : (tdat B c).before 1 t d = wBlk B c t :=
  (tdat B c).before_in_eq_fetched 1 rfl (fun _ => rfl) (fun _ _ _ => rfl) (fun _ => rfl) t d

theorem body_obligation (c : Dev nD) : BodyObligation (tdat B c) (defs₀ (F := F)) 𝒱₀ none Set.univ := fun t => by
  rw [bigSep_W0, bigSep_W0]
  rw [show (tdat B c).Φ t.castSucc = (tdat B c).Φ t.succ from rfl,
    show (tdat B c).owesAt none t.castSucc = (tdat B c).owesAt none t.succ from rfl]
  iintro ⟨HΦ, Howes, ⟨%d0, H0⟩, ⟨%d1, H1⟩, ⟨%d2, H2⟩⟩
  ihave H0 := (Entails.of_eq (congrArg (owns (c : Thread nD τ) ((cfg0.win 0).stage (cfg0.slots t 0)) fullShare) (before_x B c t d0))) $$ H0
  ihave H1 := (Entails.of_eq (congrArg (owns (c : Thread nD τ) ((cfg0.win 1).stage (cfg0.slots t 1)) fullShare) (before_w B c t d1))) $$ H1
  iapply (coef_body c (grid0.coords t) _ (hstage0_0 ((cfg0.slots t 0).cast nbuf0_0)) _ (hstage0_1 ((cfg0.slots t 1).cast nbuf0_1)) _ (hstage0_2 ((cfg0.slots t 2).cast nbuf0_2))
    (xBlk B c t) (wBlk B c t) ((tdat B c).before 2 t d2) _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-- The coefficients' array after the region. -/
def coefArr (c : Dev nD) : Buf (Elt F) (kLoc c) := (tdat B c).arrAt 2 cfg0.N

/-- What the core owes and has waited on before the call. -/
abbrev owesEarly (c : Dev nD) : sProp 𝕄 :=
  iprop(∃ W, ⌜(K (F := F)).WBelow (SparseCore.T c) W 0⌝ ∗ owes (SparseCore.T c) ((K (F := F)).Otc c 0) W)

/-- The arrays before the region and after it. -/
abbrev tcPre (c : Dev nD) : sProp 𝕄 :=
  iprop((xLoc c ↦{fullShare} B.x c) ∗ (wLoc c ↦{fullShare} B.w c) ∗ (kLoc c ↦{fullShare} B.g c) ∗ owesEarly c)
abbrev tcPost (c : Dev nD) : sProp 𝕄 :=
  iprop((xLoc c ↦{fullShare} B.x c) ∗ (wLoc c ↦{fullShare} B.w c) ∗ (kLoc c ↦{fullShare} coefArr B c) ∗ owesEarly c)

theorem arrays_three (c : Dev nD) (A : (w : Fin 3) → Buf (Elt F) ((cfg0.win w).arr.view.loc (c : Thread nD τ))) :
    (pdats B 0 c).arrays A = iprop((xLoc c ↦{fullShare} A 0) ∗ (wLoc c ↦{fullShare} A 1) ∗ (kLoc c ↦{fullShare} A 2)) :=
  (Pipeline.arrays_eq (Pipeline.pin (pcfgs (F := F)) adm) (pdats B) 0 c launch0.arr_whole ((pdats B 0 c).share_full fun _ => rfl) A).trans (bigSep_W0 _)

set_option backward.isDefEq.respectTransparency.types false in
def reg : Pipeline.RegionSeg (pcfgs (F := F)) adm (pdats B) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation B c).loose
  hwaits c := Pipeline.cellsWaits_of_cut (Pipeline.pin (pcfgs (F := F)) adm) (pdats B) none 0 c (b := 0) ((K (F := F)).Otc c 0) (fun _ => rfl)
    (fun _ _ => Finset.mem_univ _) (fun _ _ => le_rfl) (fun g i h => ⟨Finset.mem_univ _, lt_of_lt_of_le (Nat.succ_pos _) ((K (F := F)).lev_of_Otc_pos h)⟩)
  pre c := tcPre B c
  post c := tcPost B c
  X _ := BI.emp
  Y _ := BI.emp
  Z _ := BI.emp
  hentry c := by
    rw [Pipeline.ownSems0_none, Pipeline.prefHeld_of_none _ rfl, arrays_three]
    iintro ⟨⟨Hx, Hw, Hg, %W, %hW, HO⟩, -, -⟩
    imodintro
    isplitl [Hx Hw Hg]
    · isplitl [Hx]; · iexact Hx
      isplitl [Hw]; · iexact Hw
      iexact Hg
    isplitr; · iempintro
    isplitl [HO]
    · unfold Pipeline.Dat.owesAt Pipeline.owesWithin
      iexists W; isplitr; · ipureintro; exact fun p hp => Or.inl (hW p hp)
      iexact HO
    isplitr <;> iempintro
  hin c := by
    rw [show (pdats B 0 c).Φ 0 = Φc c from rfl]
    iintro ⟨-, -, Hr⟩; iexact Hr
  hout c := by
    rw [Pipeline.ownSems0_none, show (pdats B 0 c).Φ (Fin.last _) = Φc c from rfl]
    iintro Hr
    isplitr; · iempintro
    isplitr; · iempintro
    iexact Hr
  hexit c := by
    rw [arrays_three]
    iintro ⟨⟨Hx, Hw, Hg⟩, HO, -, -⟩
    imodintro
    isplitl [Hx]; · iexact Hx
    isplitl [Hw]; · iexact Hw
    isplitl [Hg]; · iexact Hg
    unfold Pipeline.Dat.owesAt Pipeline.owesWithin
    icases HO with ⟨%W, %hW, HO⟩
    iexists W
    isplitr
    · ipureintro
      intro p hp
      rcases hW hp with h | ⟨w, s, rfl⟩
      · exact h
      · exact Nat.zero_le _
    iexact HO

end Cert.Proof.Sc

end
-- ==== Proof.ScRow.lean ====
/-
  One row of a strip: the coefficients loaded, the row's sixty-four chunks computed, each from the fetched slot into
  the write-back slot.
-/
module

public import proofs.«01_k».proof.Proof.ScBase

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid1.Coords)

/-- The slots and the coefficients' scratch, held. -/
abbrev xP (sl : Fin 2) (f : Buf (Elt F) (xbLoc d L)) : sProp 𝕄 := xbLoc d L ↦[(xSlot sl).view.set]{fullShare} f
abbrev oP (sl : Fin 2) (f : Buf (Elt F) (obLoc d L)) : sProp 𝕄 := obLoc d L ↦[(oSlot sl).view.set]{fullShare} f
abbrev cP (f : Buf (Elt F) (cbLoc d L)) : sProp 𝕄 := cbLoc d L ↦{fullShare} f

/-- A program of the task meets a postcondition. -/
abbrev Wp {α : Type} (p : TP (F := F) L α) (Q : α → sProp 𝕄) : sProp 𝕄 :=
  wp frame (wpE (defs₀ (F := F)) 𝒱₀ (VT d L) none) Set.univ p Q

theorem Wp_bind {α β : Type} (p : TP (F := F) L α) (k : α → TP (F := F) L β) (Q : β → sProp 𝕄) :
    Wp d L (p >>= k) Q = Wp d L p fun a => Wp d L (k a) Q := wp_bind _ _ _ _ _ _

theorem Wp_mono {α : Type} {p : TP (F := F) L α} {Q Q' : α → sProp 𝕄} (h : ∀ a, Q a ⊢ Q' a) : Wp d L p Q ⊢ Wp d L p Q' :=
  wp_mono _ _ _ h

/-- The head of a program by its triple. -/
theorem Wp_seq {α β : Type} {p : TP (F := F) L α} {P : sProp 𝕄} {Q : α → sProp 𝕄} (h : P ⊢ Wp d L p Q) (k : α → TP (F := F) L β) (Q' : β → sProp 𝕄) :
    P ⊢ iprop((∀ a, Q a -∗ Wp d L (k a) Q') -∗ Wp d L (p >>= k) Q') := by
  rw [Wp_bind]
  iintro HP Hk
  iapply (wp_wand_r frame (wpE (defs₀ (F := F)) 𝒱₀ (VT d L) none) Set.univ (Q := Q))
  isplitl [HP]
  · iapply h; iexact HP
  iexact Hk

theorem Wp_ret {α : Type} (a : α) (Q : α → sProp 𝕄) : Q a ⊢ Wp d L (Prog.ret a) Q := by
  show _ ⊢ wp frame _ _ (Prog.ret a) Q
  rw [wp_ret]
  iintro H
  imodintro
  iexact H

/-- The sixteen lanes of coefficient `j` of row `r`. -/
abbrev cR (sl : Fin 2) (r : Fin 4) (j : Fin 8) (t : Fin k1_t1_loop.trips) : Rect S16384 :=
  Rect.unit (s := S16384) (k1_off5 t (BitVec.ofNat 32 sl.val) (BitVec.ofNat 32 r.val) (BitVec.ofNat 32 (16 * j.val))) S16.size (k1_off5_inb t sl r j)

/-- The write-back slot holds `g` where `A` says. -/
def Done (sl : Fin 2) (g : Fin 4 → Fin 2 → Fin 2 → Fin 1024 → Elt F .f32) (A : Fin 4 → Fin 2 → Fin 2 → Fin 1024 → Prop)
    (fo : S2x4x2x2x1024.Idx → Elt F .f32) : Prop :=
  ∀ r c s w, A r c s w → fo (ix5 sl r c s w) = g r c s w

/-- The lanes of chunk `k` of one row, column block and output. -/
def Blk (r : Fin 4) (c s : Fin 2) (k : ℕ) (r' : Fin 4) (c' s' : Fin 2) (w : Fin 1024) : Prop :=
  r' = r ∧ c' = c ∧ s' = s ∧ 16 * k ≤ w.val ∧ w.val < 16 * k + 16

variable {d L}

theorem Done.write {sl : Fin 2} {g} {A} {fo : S2x4x2x2x1024.Idx → Elt F .f32} (h : Done sl g A fo) {r : Fin 4} {c s : Fin 2}
    {k : Fin k1_t2_loop.trips} {v : S1x1x1x1x16.Idx → Elt F .f32} (hv : ∀ l, v (ix5 0 0 0 0 l) = g r c s (lane k l)) :
    Done sl g (fun r' c' s' w => A r' c' s' w ∨ Blk r c s k.val r' c' s' w)
      ((oB.access (oR sl r c s k)).write (Elt F) fo v Finset.univ) := by
  intro r' c' s' w hA
  by_cases hb : Blk r c s k.val r' c' s' w
  · obtain ⟨rfl, rfl, rfl, h1, h2⟩ := hb
    obtain ⟨l, rfl⟩ : ∃ l : Fin 16, w = lane k l := ⟨⟨w.val - 16 * k.val, by omega⟩, Fin.ext (show w.val = 16 * k.val + (w.val - 16 * k.val) by omega)⟩
    rw [oR_write_in, hv]
  · rw [oR_write_out _ _ _ _ _ _ _ _ _ _ _ hb]
    exact h _ _ _ _ (hA.resolve_right hb)

theorem Done.mono {sl : Fin 2} {g} {A B} {fo : S2x4x2x2x1024.Idx → Elt F .f32} (h : Done sl g A fo) (hB : ∀ r c s w, B r c s w → A r c s w) :
    Done sl g B fo := fun r c s w hb => h r c s w (hB r c s w hb)

/-! ## Loads and stores -/

theorem ldx_wp {sl : Fin 2} {r : Fin 4} {c : Fin 2} {h : Fin 4} {k : Fin k1_t2_loop.trips} {f : Buf (Elt F) (xbLoc d L)}
    {Q : Vec F S1x1x1x1x16 .f32 → sProp 𝕄} :
    xP d L sl f ⊢ iprop((xP d L sl f -∗ Q ((xB.access (xR sl r c h k)).read (Elt F) f)) -∗ Wp d L (ldx L sl r c h k) Q) := by
  iintro Hx Hk
  unfold ldx
  iapply (wp_load_rect 𝒱₀ (VT d L) none Set.univ (m := xB) (r := xR sl r c h k) (k := Prog.ret) (Q := Q) (xR_sub sl r c h k)) $$ Hx
  iintro Hx
  rw [wp_ret]
  imodintro
  iapply Hk
  iexact Hx

theorem sto_wp {sl : Fin 2} {r : Fin 4} {c : Fin 2} {s : Fin 2} {k : Fin k1_t2_loop.trips} {w : Vec F S1x1x1x1x16 .f32}
    {g} {A} (hv : ∀ l, w (ix5 0 0 0 0 l) = g r c s (lane k l)) {Q : PUnit → sProp 𝕄} :
    iprop(∃ fo, ⌜Done sl g A fo⌝ ∗ oP d L sl fo)
      ⊢ iprop((iprop(∃ fo, ⌜Done sl g (fun r' c' s' w => A r' c' s' w ∨ Blk r c s k.val r' c' s' w) fo⌝ ∗ oP d L sl fo) -∗ Q ⟨⟩)
          -∗ Wp d L (sto L sl r c s k w) Q) := by
  iintro ⟨%fo, %hfo, Ho⟩ Hk
  unfold sto
  simp only [Prog.lift, Prog.bind_op, Prog.bind_ret]
  iapply (wp_load_rect 𝒱₀ (VT d L) none Set.univ (m := oB) (r := oR sl r c s k) (oR_sub sl r c s k)) $$ Ho
  iintro Ho
  iapply (wp_store 𝒱₀ (VT d L) none Set.univ (m := oB) (r := oR sl r c s k) (oR_sub sl r c s k)) $$ Ho
  iintro Ho
  rw [wp_ret]
  imodintro
  iapply Hk
  iexists _
  isplitr
  · ipureintro; exact hfo.write hv
  iexact Ho

theorem ldc_wp {sl : Fin 2} {r : Fin 4} {j : Fin 8} {t : Fin k1_t1_loop.trips} {f : Buf (Elt F) (cbLoc d L)} {Q : Vec F S16 .f32 → sProp 𝕄} :
    cP d L f ⊢ iprop((∀ v : Vec F S16 .f32, ⌜∀ l : Fin 16, v (ix1 l)
        = f (ix1 ⟨1024 * t.val + 512 * sl.val + 128 * r.val + 16 * j.val + l.val, by have := t.isLt.trans_eq trips1; omega⟩)⌝ -∗ cP d L f -∗ Q v)
      -∗ Wp d L (ldc L sl r j t) Q) := by
  iintro Hc Hk
  unfold ldc
  iapply (wp_load_rect 𝒱₀ (VT d L) none Set.univ (m := cB) (r := cR sl r j t) (k := Prog.ret) (Q := Q) (Finset.subset_univ _)) $$ Hc
  iintro Hc
  rw [wp_ret]
  imodintro
  iapply Hk $$ %_ [] Hc
  ipureintro
  exact cR_read f sl r j t

/-! ## The chunk -/

/-- The sums of products of the slot's operands are `g`'s elements. -/
def Sums (sl : Fin 2) (r : Fin 4) (cf : Fin 2 → Fin 4 → FVec F S16 .f32) (fx : S2x4x2x4x1024.Idx → Elt F .f32)
    (g : Fin 4 → Fin 2 → Fin 2 → Fin 1024 → Elt F .f32) : Prop :=
  ∀ (k : Fin k1_t2_loop.trips) (c s : Fin 2) (l : Fin 16),
    dot4 (fun h => cf s h (ix1 l)) (fun h => fx (ix5 sl r c h (lane k l))) = g r c s (lane k l)

theorem dotv_g {sl : Fin 2} {r : Fin 4} {cf : Fin 2 → Fin 4 → FVec F S16 .f32} {fx : S2x4x2x4x1024.Idx → Elt F .f32} {g}
    (h : Sums sl r cf fx g) (k : Fin k1_t2_loop.trips) (c s : Fin 2) (l : Fin 16) :
    dotv (cf s 0) (cf s 1) (cf s 2) (cf s 3) ((xB.access (xR sl r c 0 k)).read (Elt F) fx) ((xB.access (xR sl r c 1 k)).read (Elt F) fx)
      ((xB.access (xR sl r c 2 k)).read (Elt F) fx) ((xB.access (xR sl r c 3 k)).read (Elt F) fx) (ix5 0 0 0 0 l) = g r c s (lane k l) := by
  rw [dotv_apply, ← h k c s l]
  unfold dot4
  simp only [Matrix.cons_val]
  rw [xR_read, xR_read, xR_read, xR_read]

theorem chunkC_wp {sl : Fin 2} {r : Fin 4} {cf : Fin 2 → Fin 4 → FVec F S16 .f32} {fx : Buf (Elt F) (xbLoc d L)} {g} {A}
    (h : Sums sl r cf fx g) (k : Fin k1_t2_loop.trips) (c : Fin 2) :
    iprop(xP d L sl fx ∗ ∃ fo, ⌜Done sl g A fo⌝ ∗ oP d L sl fo)
      ⊢ Wp d L (chunkC L sl r cf k c) fun _ => iprop(xP d L sl fx
          ∗ ∃ fo, ⌜Done sl g (fun r' c' s' w => (A r' c' s' w ∨ Blk r c 0 k.val r' c' s' w) ∨ Blk r c 1 k.val r' c' s' w) fo⌝ ∗ oP d L sl fo) := by
  iintro ⟨Hx, Ho⟩
  unfold chunkC
  rw [Wp_bind]
  iapply ldx_wp $$ Hx; iintro Hx
  rw [Wp_bind]
  iapply ldx_wp $$ Hx; iintro Hx
  rw [Wp_bind]
  iapply ldx_wp $$ Hx; iintro Hx
  rw [Wp_bind]
  iapply ldx_wp $$ Hx; iintro Hx
  rw [Wp_bind]
  iapply (sto_wp (g := g) (A := A) (fun l => dotv_g h k c 0 l)) $$ Ho; iintro Ho
  iapply (sto_wp (g := g) (fun l => dotv_g h k c 1 l)) $$ Ho; iintro Ho
  isplitl [Hx]; · iexact Hx
  iexact Ho

/-- The rows before `r`, and row `r`'s first `k` chunks. -/
def Upto (r : ℕ) (k : ℕ) (r' : Fin 4) (_c _s : Fin 2) (w : Fin 1024) : Prop := r'.val < r ∨ (r'.val = r ∧ w.val < 16 * k)

theorem chunk_wp {sl : Fin 2} {r : Fin 4} {cf : Fin 2 → Fin 4 → FVec F S16 .f32} {fx : Buf (Elt F) (xbLoc d L)} {g}
    (h : Sums sl r cf fx g) (k : Fin k1_t2_loop.trips) (u : Unit) :
    iprop(xP d L sl fx ∗ ∃ fo, ⌜Done sl g (Upto r.val k.val) fo⌝ ∗ oP d L sl fo)
      ⊢ Wp d L (chunk L sl r cf k u) fun _ => iprop(xP d L sl fx ∗ ∃ fo, ⌜Done sl g (Upto r.val (k.val + 1)) fo⌝ ∗ oP d L sl fo) := by
  unfold chunk
  rw [Wp_bind]
  refine (chunkC_wp h k 0).trans (Wp_mono _ _ fun _ => ?_)
  rw [Wp_bind]
  refine (chunkC_wp h k 1).trans (Wp_mono _ _ fun _ => ?_)
  rw [Prog.pure_eq_ret]
  iintro ⟨Hx, ⟨%fo, %hfo, Ho⟩⟩
  iapply Wp_ret
  isplitl [Hx]; · iexact Hx
  iexists fo
  isplitr
  · ipureintro
    refine hfo.mono fun r' c' s' w hB => ?_
    by_cases hA : Upto r.val k.val r' c' s' w
    · exact .inl (.inl (.inl (.inl hA)))
    · have hr : r' = r := by unfold Upto at hA hB; omega
      have hw : 16 * k.val ≤ w.val ∧ w.val < 16 * k.val + 16 := by unfold Upto at hA hB; omega
      obtain rfl | rfl : c' = 0 ∨ c' = 1 := by omega
      · obtain rfl | rfl : s' = 0 ∨ s' = 1 := by omega
        · exact .inl (.inl (.inl (.inr ⟨hr, rfl, rfl, hw⟩)))
        · exact .inl (.inl (.inr ⟨hr, rfl, rfl, hw⟩))
      · obtain rfl | rfl : s' = 0 ∨ s' = 1 := by omega
        · exact .inl (.inr ⟨hr, rfl, rfl, hw⟩)
        · exact .inr ⟨hr, rfl, rfl, hw⟩
  iexact Ho

/-! ## The row -/

/-- The sums of products of the slot's operands and the scratch's coefficients are `g`'s elements. -/
def RowSums (sl : Fin 2) (t : Fin k1_t1_loop.trips) (fc : S16384.Idx → Elt F .f32) (fx : S2x4x2x4x1024.Idx → Elt F .f32)
    (g : Fin 4 → Fin 2 → Fin 2 → Fin 1024 → Elt F .f32) : Prop :=
  ∀ (r : Fin 4) (c s : Fin 2) (w : Fin 1024),
    dot4 (fun h => fc (ix1 ⟨1024 * t.val + 512 * sl.val + 128 * r.val + 16 * (4 * s.val + h.val) + w.val % 16, by have := t.isLt.trans_eq trips1; omega⟩))
      (fun h => fx (ix5 sl r c h w)) = g r c s w

theorem row_wp {sl : Fin 2} {t : Fin k1_t1_loop.trips} {fc : Buf (Elt F) (cbLoc d L)} {fx : Buf (Elt F) (xbLoc d L)} {g}
    (h : RowSums sl t fc fx g) (r : Fin 4) :
    iprop(xP d L sl fx ∗ cP d L fc ∗ ∃ fo, ⌜Done sl g (Upto r.val 0) fo⌝ ∗ oP d L sl fo)
      ⊢ Wp d L (row L sl t r) fun _ => iprop(xP d L sl fx ∗ cP d L fc ∗ ∃ fo, ⌜Done sl g (Upto (r.val + 1) 0) fo⌝ ∗ oP d L sl fo) := by
  iintro ⟨Hx, Hc, Ho⟩
  unfold row
  rw [Wp_bind]; iapply ldc_wp $$ Hc; iintro %c0 %h0 Hc
  rw [Wp_bind]; iapply ldc_wp $$ Hc; iintro %c1 %h1 Hc
  rw [Wp_bind]; iapply ldc_wp $$ Hc; iintro %c2 %h2 Hc
  rw [Wp_bind]; iapply ldc_wp $$ Hc; iintro %c3 %h3 Hc
  rw [Wp_bind]; iapply ldc_wp $$ Hc; iintro %c4 %h4 Hc
  rw [Wp_bind]; iapply ldc_wp $$ Hc; iintro %c5 %h5 Hc
  rw [Wp_bind]; iapply ldc_wp $$ Hc; iintro %c6 %h6 Hc
  rw [Wp_bind]; iapply ldc_wp $$ Hc; iintro %c7 %h7 Hc
  have hs : Sums sl r (![![sc16 c0, sc16 c1, sc16 c2, sc16 c3], ![sc16 c4, sc16 c5, sc16 c6, sc16 c7]]) fx g := by
    intro k c s l
    have hl : (lane k l).val % 16 = l.val := by show (16 * k.val + l.val) % 16 = l.val; omega
    rw [← h r c s (lane k l)]
    unfold dot4
    simp only [hl]
    obtain rfl | rfl : s = 0 ∨ s = 1 := by omega
    · simp only [Matrix.cons_val, sc16_apply, h0, h1, h2, h3]; rfl
    · simp only [Matrix.cons_val, sc16_apply, h4, h5, h6, h7]; rfl
  iapply (Scf.wp_for frame (wpE (defs₀ (F := F)) 𝒱₀ (VT d L) none) Set.univ _ _ _ k1_t2_ok ⟨⟩ _
    (fun k _ => iprop(xP d L sl fx ∗ ∃ fo, ⌜Done sl g (Upto r.val k) fo⌝ ∗ oP d L sl fo)) (fun k u => chunk_wp hs k u)) $$ [Hx Ho Hc]
  isplitl [Hx Ho]
  · isplitl [Hx]; · iexact Hx
    iexact Ho
  iintro %u ⟨Hx, ⟨%fo, %hfo, Ho⟩⟩
  isplitl [Hx]; · iexact Hx
  isplitl [Hc]; · iexact Hc
  iexists fo
  isplitr
  · ipureintro
    refine hfo.mono fun r' c' s' w hB => ?_
    have ht : Scf.trips k1_t2_loop.lb k1_t2_loop.ub k1_t2_loop.st = 64 := trips2
    unfold Upto at hB ⊢
    rw [ht]; omega
  iexact Ho

end Cert.Proof.Sc

end
-- ==== Proof.ScTile.lean ====
/-
  The tile kernel: the loop over strips, two slots deep.
-/
module

public import proofs.«01_k».proof.Proof.ScRow

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers

variable {F : FTy → Type} [FloatOps F]

local notation "𝕄" => MT nD τ sig (HIx 1) (Elt F) ℕ UU ℕ

/-! ## The strips -/

/-- The first row of strip `2 t + sl` of the task. -/
def rowN (L : grid1.Coords) (sl : Fin 2) (t : ℕ) : ℕ := 256 * (L 1).val + 128 * (L 0).val + 8 * t + 4 * sl.val

theorem rowN_le (L : grid1.Coords) (sl : Fin 2) {t : ℕ} (ht : t < 16) : rowN L sl t + 4 ≤ 4096 := by
  have h0 : (L 0).val < 2 := (L 0).isLt
  have h1 : (L 1).val < 16 := (L 1).isLt
  unfold rowN; omega

theorem t16 (t : Fin k1_t1_loop.trips) : t.val < 16 := t.isLt.trans_eq trips1

theorem outCond_iff : ∀ (sl : Fin 2) (t : Fin k1_t1_loop.trips), outCond sl t = 1#1 ↔ t.val ≠ 0 := by decide +kernel
theorem inCond_iff : ∀ (sl : Fin 2) (t : Fin k1_t1_loop.trips), inCond sl t = 1#1 ↔ t.val + 1 < 16 := by decide +kernel

theorem off54_eq (L : grid1.Coords) (sl : Fin 2) (t : Fin k1_t1_loop.trips) : k1_off54 L t (slW sl) = ![rowN L sl t.val, 0, 0, 0] :=
  k1_off54_eq L t sl
theorem off2_eq (L : grid1.Coords) (sl : Fin 2) : k1_off2 L (BitVec.ofNat 32 (4 * sl.val)) = ![rowN L sl 0, 0, 0, 0] :=
  (k1_off2_eq L sl).trans rfl
theorem nextOff_eq (L : grid1.Coords) (sl : Fin 2) (t : Fin k1_t1_loop.trips) : nextOff L sl t = ![rowN L sl (t.val + 1), 0, 0, 0] := by
  obtain rfl | rfl : sl = 0 ∨ sl = 1 := by omega
  · rw [nextOff_0, k1_off55_eq]; rfl
  · rw [nextOff_1, k1_off105_eq]
    unfold rowN
    rw [show 256 * (L 1).val + 128 * (L 0).val + 8 * (t.val + 1) + 4 * (1 : Fin 2).val = 256 * (L 1).val + 128 * (L 0).val + 8 * t.val + 12 by
      show _ = _; simp; omega]

/-- Rows `n .. n + 3` of the operand. -/
def xrowsSet (n : ℕ) : Finset S4096x2x4x1024.Idx := Finset.univ.filter fun i => n ≤ (i 0).val ∧ (i 0).val < n + 4

theorem xRows_set {off : Fin 4 → ℕ} (hin) {n : ℕ} (hoff : off = ![n, 0, 0, 0]) :
    (xRows off hin).view.set = xrowsSet n := by
  subst hoff
  show ((View.whole main_arg0_scv).slice (Rect.unit (s := S4096x2x4x1024) ![n, 0, 0, 0] S4x2x4x1024.size hin)).set = _
  rw [View.set_slice_whole]
  ext i
  rw [xrowsSet, Finset.mem_filter]
  refine Rect.mem_set_unit.trans ⟨fun h => ⟨Finset.mem_univ _, h 0⟩, fun h a => ?_⟩
  match a with
  | ⟨0, _⟩ => exact h.2
  | ⟨1, _⟩ => exact ⟨Nat.zero_le _, by have := (i 1).isLt; show (i 1).val < 0 + 2; change (i 1).val < 2 at this; omega⟩
  | ⟨2, _⟩ => exact ⟨Nat.zero_le _, by have := (i 2).isLt; show (i 2).val < 0 + 4; change (i 2).val < 4 at this; omega⟩
  | ⟨3, _⟩ => exact ⟨Nat.zero_le _, by have := (i 3).isLt; show (i 3).val < 0 + 1024; change (i 3).val < 1024 at this; omega⟩

/-! ## What the task holds -/

variable (d : Dev nD) (L : grid1.Coords) (x : Buf (Elt F) (xLoc d)) (v3 : Buf (Elt F) (cLoc d))

/-- Strip `2 t + sl` of the operand and of the result. -/
abbrev xStrip (sl : Fin 2) (t : ℕ) : sProp 𝕄 := xLoc d ↦[xrowsSet (rowN L sl t)]{fullShare} x
abbrev oStrip (sl : Fin 2) (t : ℕ) (f : Buf (Elt F) (oLoc d)) : sProp 𝕄 := oLoc d ↦[rowsSet (rowN L sl t)]{fullShare} f

/-- A strip of the result before trip `t`'s write-back is issued: the first strips hold the target. -/
def oAt (sl : Fin 2) (t : ℕ) (t' : Fin 16) : sProp 𝕄 :=
  if t'.val + 1 < t then oStrip d L sl t'.val (tgt x v3) else iprop(∃ f, oStrip (F := F) d L sl t'.val f)

/-- The fetched slot holds strip `2 t + sl`. -/
def XOK (sl : Fin 2) (t : ℕ) (fx : S2x4x2x4x1024.Idx → Elt F .f32) : Prop :=
  ∀ (ht : t < 16) (r : Fin 4) (c : Fin 2) (h : Fin 4) (w : Fin 1024), fx (ix5 sl r c h w) = x (ix4 (up (rowN L sl t) (rowN_le L sl ht) r) c h w)

/-- The target on strip `2 t + sl`. -/
def gAt (sl : Fin 2) (t : ℕ) (r : Fin 4) (c s : Fin 2) (w : Fin 1024) : Elt F .f32 :=
  if ht : t < 16 then tgtAt x v3 (up (rowN L sl t) (rowN_le L sl ht) r) c s w else x (ix4 0 0 0 0)

abbrev NX (sl : Fin 2) : ℕ := (xSlot sl).view.dmaCredit
abbrev NO : ℕ := (oRows ![0, 0, 0, 0] (by decide)).view.dmaCredit

abbrev InD (sl : Fin 2) (t : ℕ) : sProp 𝕄 := iprop((∃ fx, ⌜XOK d L x sl t fx⌝ ∗ xP d L sl fx) ∗ xStrip d L x sl t)
abbrev OutD (sl : Fin 2) (t : ℕ) : sProp 𝕄 := iprop(oStrip d L sl t (tgt x v3) ∗ ∃ f, oP (F := F) d L sl f)

/-- The fetch ring's slot before trip `t`: strip `2 t + sl` on its way, the other strips at home. -/
def InSt (sl : Fin 2) (t : ℕ) : sProp 𝕄 :=
  iprop((if t < 16 then Flight EC (VT d L) (.dma (sIn sl).sem) none (NX sl) (InD d L x sl t)
      else iprop((∃ f, xP (F := F) d L sl f) ∗ semVal (dcell d L (sIn sl).sem) 0))
    ∗ bigSep (Finset.univ.filter fun t' : Fin 16 => t'.val ≠ t) fun t' => xStrip d L x sl t'.val)

/-- The write-back ring's slot before trip `t`: strip `2 (t - 1) + sl` on its way, the other strips at home. -/
def OutSt (sl : Fin 2) (t : ℕ) : sProp 𝕄 :=
  iprop((if t = 0 then iprop((∃ f, oP (F := F) d L sl f) ∗ semVal (dcell d L (sOut sl).sem) 0)
      else Flight EC (VT d L) (.dma (sOut sl).sem) none NO (OutD d L x v3 sl (t - 1)))
    ∗ bigSep (Finset.univ.filter fun t' : Fin 16 => t'.val + 1 ≠ t) fun t' => oAt d L x v3 sl t t')

/-- What the task owes, its waits recorded. -/
def Owes (O : CellTallies nD τ sig (HIx 1)) (W : Waits sig (HIx 1)) : sProp 𝕄 :=
  iprop(∃ W', ⌜∀ p ∈ W', p ∈ W ∨ p.2 = none⌝ ∗ owes (VT d L) O W')

variable {d L x v3}

/-! ## What the transfers land -/

theorem in_lands {sl : Fin 2} {t : ℕ} {off : Fin 4 → ℕ} (hin) (hoff : off = ![rowN L sl t, 0, 0, 0]) (fd : Buf (Elt F) (xbLoc d L)) :
    XOK d L x sl t ((xSlot sl).view.write (Elt F) fd ((xRows off hin).view.read (Elt F) x) Finset.univ) := by
  intro ht r c h w
  rw [← xSlot_emb, View.write_emb_of_mem _ _ (Finset.mem_univ _)]
  show (xRows off hin).view.read (Elt F) x (ix4 r c h w) = _
  rw [View.read_apply, xRows_emb hin hoff (rowN_le L sl ht)]
  rfl

theorem out_lands {sl : Fin 2} {t : ℕ} (ht : t < 16) {off : Fin 4 → ℕ} (hin) (hoff : off = ![rowN L sl t, 0, 0, 0])
    (fo : Buf (Elt F) (obLoc d L)) (hfo : Done sl (gAt d L x v3 sl t) (Upto 4 0) fo) (fd : Buf (Elt F) (oLoc d)) :
    ∀ i ∈ rowsSet (rowN L sl t), (oRows off hin).view.write (Elt F) fd ((oSlot sl).view.read (Elt F) fo) Finset.univ i = tgt x v3 i := by
  intro i hi
  rw [← oRows_set hin hoff] at hi
  obtain ⟨j, -, rfl⟩ := Finset.mem_map.mp hi
  rw [View.write_emb_of_mem _ _ (Finset.mem_univ _)]
  obtain ⟨r, c, s, w, rfl⟩ := ex4o j
  show (oSlot sl).view.read (Elt F) fo (ix4 r c s w) = _
  rw [View.read_apply, oSlot_emb, oRows_emb hin hoff (rowN_le L sl ht)]
  refine (hfo r c s w (.inl r.isLt)).trans ?_
  unfold gAt
  rw [dif_pos ht]
  rfl

theorem rowSums {sl : Fin 2} {t : Fin k1_t1_loop.trips} {fc : S16384.Idx → Elt F .f32} {fx : S2x4x2x4x1024.Idx → Elt F .f32}
    (hc : ∀ n : Fin 16384, fc (ix1 n) = v3 (ix1 ⟨32768 * (L 1).val + 16384 * (L 0).val + n.val, by
      have h0 : (L 0).val < 2 := (L 0).isLt
      have h1 : (L 1).val < 16 := (L 1).isLt
      omega⟩))
    (hx : XOK d L x sl t.val fx) : RowSums sl t fc fx (gAt d L x v3 sl t.val) := by
  intro r c s w
  unfold gAt
  rw [dif_pos (t16 t)]
  unfold tgtAt
  congr 1
  · funext h
    rw [hc]
    unfold coefAt
    congr 2
    apply Fin.ext
    show 32768 * (L 1).val + 16384 * (L 0).val + (1024 * t.val + 512 * sl.val + 128 * r.val + 16 * (4 * s.val + h.val) + w.val % 16)
      = (rowN L sl t.val + r.val) * 128 + (s.val * 4 + h.val) * 16 + w.val % 16
    unfold rowN
    omega
  · funext h
    exact hx (t16 t) r c h w

/-! ## Families of strips with one taken out -/

theorem fam_split (t : Fin 16) (Φ : Fin 16 → sProp 𝕄) :
    bigSep Finset.univ Φ = iprop(Φ t ∗ bigSep (Finset.univ.filter fun t' : Fin 16 => t'.val ≠ t.val) Φ) := by
  rw [SparseCore.bigSep_erase' (Finset.mem_univ t)]
  congr 2
  ext t'
  simp [Fin.ext_iff]

theorem fam_all {p : Fin 16 → Prop} [DecidablePred p] (h : ∀ t', p t') (Φ : Fin 16 → sProp 𝕄) :
    bigSep (Finset.univ.filter p) Φ = bigSep Finset.univ Φ := by
  rw [Finset.filter_true_of_mem fun t _ => h t]

theorem oAt_done {sl : Fin 2} {t : ℕ} {t' : Fin 16} (h : t'.val + 1 < t) : oAt d L x v3 sl t t' = oStrip d L sl t'.val (tgt x v3) := if_pos h
theorem oAt_todo {sl : Fin 2} {t : ℕ} {t' : Fin 16} (h : ¬ t'.val + 1 < t) : oAt d L x v3 sl t t' = iprop(∃ f, oStrip (F := F) d L sl t'.val f) := if_neg h

/-- Strips at home, but the one trip `t` issues next, are the same family before and after the write-back of trip `t - 1`. -/
theorem oHome_next (sl : Fin 2) (t : ℕ) :
    bigSep (Finset.univ.filter fun t' : Fin 16 => t'.val + 1 ≠ t) (oAt d L x v3 sl t)
      = bigSep (Finset.univ.filter fun t' : Fin 16 => t'.val + 1 ≠ t) (oAt d L x v3 sl (t + 1)) := by
  refine BI.bigSep_congr fun t' ht' => ?_
  have hne : t'.val + 1 ≠ t := (Finset.mem_filter.mp ht').2
  by_cases h : t'.val + 1 < t
  · rw [oAt_done h, oAt_done (by omega)]
  · rw [oAt_todo h, oAt_todo (by omega)]

/-! ## The transfers -/

section Transfers

variable {O : CellTallies nD τ sig (HIx 1)} {W : Waits sig (HIx 1)}

/-- A wait on the fetch ring's slot. -/
theorem waitIn_wp {sl : Fin 2} {t : Fin k1_t1_loop.trips} {Q : PUnit → sProp 𝕄} :
    iprop(InSt d L x sl t.val ∗ Owes d L O W ∗ MayWaits (VT d L) none O)
      ⊢ iprop((iprop((∃ fx, ⌜XOK d L x sl t.val fx⌝ ∗ xP d L sl fx) ∗ semVal (dcell d L (sIn sl).sem) 0
            ∗ bigSep Finset.univ (fun t' : Fin 16 => xStrip d L x sl t'.val) ∗ Owes d L O W) -∗ Q ⟨⟩)
          -∗ Wp d L (waitIn L sl t) Q) := by
  unfold InSt Owes
  rw [if_pos (t16 t)]
  iintro ⟨⟨Hfl, Hhome⟩, ⟨%W', %hW', HO⟩, Hmw⟩ Hk
  unfold waitIn
  iapply (wp_waitLocalO EC 𝒱₀ (VT d L) none (k := Prog.ret) (none : HIx 1) rfl) $$ [Hfl HO Hmw]
  · isplitl [Hfl]; · iexact Hfl
    isplitl [HO]; · iexact HO
    iapply (MayWaits.elim (SemLoc.dma (sIn sl).sem)) $$ Hmw
  iintro ⟨⟨Hx, Hs⟩, Hsem, HO⟩
  rw [wp_ret]
  imodintro
  iapply Hk
  isplitl [Hx]; · iexact Hx
  isplitl [Hsem]; · iexact Hsem
  isplitl [Hs Hhome]
  · rw [fam_split (⟨t.val, t16 t⟩ : Fin 16)]
    isplitl [Hs]; · iexact Hs
    iexact Hhome
  iexists _
  isplitr; swap
  · iexact HO
  ipureintro
  intro p hp
  rcases Finset.mem_insert.mp hp with rfl | hp
  · exact .inr rfl
  · exact hW' p hp

/-- A wait on the write-back ring's slot with a strip on its way, by any window of four rows. -/
theorem waitOut_some {sl : Fin 2} {t : ℕ} (ht : t ≠ 0) (ht' : t ≤ 16) {off : Fin 4 → ℕ} (hin) {hs : (oSlot sl).view.WordExact} {hd : (oRows off hin).view.WordExact} {Q : PUnit → sProp 𝕄} :
    iprop(OutSt d L x v3 sl t ∗ Owes d L O W ∗ MayWaits (VT d L) none O)
      ⊢ iprop((iprop((∃ f, oP (F := F) d L sl f) ∗ semVal (dcell d L (sOut sl).sem) 0
            ∗ bigSep Finset.univ (oAt d L x v3 sl (t + 1)) ∗ Owes d L O W) -∗ Q ⟨⟩)
          -∗ Wp d L (Prog.lift (.waitDma2 (sOut sl).sem (oSlot sl) (oRows off hin) hs hd)) Q) := by
  unfold OutSt Owes
  rw [if_neg ht, oHome_next]
  iintro ⟨⟨Hfl, Hhome⟩, ⟨%W', %hW', HO⟩, Hmw⟩ Hk
  iapply (wp_waitLocalO EC 𝒱₀ (VT d L) none (k := Prog.ret) (none : HIx 1) rfl) $$ [Hfl HO Hmw]
  · isplitl [Hfl]; · iexact Hfl
    isplitl [HO]; · iexact HO
    iapply (MayWaits.elim (SemLoc.dma (sOut sl).sem)) $$ Hmw
  iintro ⟨⟨Hs, Ho⟩, Hsem, HO⟩
  rw [wp_ret]
  imodintro
  iapply Hk
  isplitl [Ho]; · iexact Ho
  isplitl [Hsem]; · iexact Hsem
  isplitl [Hs Hhome]
  · rw [fam_split (⟨t - 1, by omega⟩ : Fin 16), oAt_done (show (t - 1) + 1 < t + 1 by omega)]
    isplitl [Hs]; · iexact Hs
    rw [show (Finset.univ.filter fun t' : Fin 16 => t'.val + 1 ≠ t) = (Finset.univ.filter fun t' : Fin 16 => t'.val ≠ t - 1) from
      Finset.filter_congr fun t' _ => by omega]
    iexact Hhome
  iexists _
  isplitr; swap
  · iexact HO
  ipureintro
  intro p hp
  rcases Finset.mem_insert.mp hp with rfl | hp
  · exact .inr rfl
  · exact hW' p hp

theorem waitOut_wp {sl : Fin 2} {t : Fin k1_t1_loop.trips} {Q : PUnit → sProp 𝕄} :
    iprop(OutSt d L x v3 sl t.val ∗ Owes d L O W ∗ MayWaits (VT d L) none O)
      ⊢ iprop((iprop((∃ f, oP (F := F) d L sl f) ∗ semVal (dcell d L (sOut sl).sem) 0
            ∗ bigSep Finset.univ (oAt d L x v3 sl (t.val + 1)) ∗ Owes d L O W) -∗ Q ⟨⟩)
          -∗ Wp d L (waitOut L sl t) Q) := by
  unfold waitOut
  by_cases h : outCond sl t = 1#1
  · rw [dif_pos h]
    exact waitOut_some ((outCond_iff sl t).mp h) (t16 t).le _
  · rw [dif_neg h, Prog.pure_eq_ret]
    have h0 : t.val = 0 := by by_contra hne; exact h ((outCond_iff sl t).mpr hne)
    unfold OutSt
    rw [oHome_next, if_pos h0, fam_all (fun t' => by omega)]
    iintro ⟨⟨⟨Ho, Hsem⟩, Hhome⟩, HO, Hmw⟩ Hk
    iapply Wp_ret
    iapply Hk
    isplitl [Ho]; · iexact Ho
    isplitl [Hsem]; · iexact Hsem
    isplitl [Hhome]; · iexact Hhome
    iexact HO

/-- A strip's fetch issued. -/
theorem issueIn_some {sl : Fin 2} {t : ℕ} (ht : t < 16) {off : Fin 4 → ℕ} (hin) (hoff : off = ![rowN L sl t, 0, 0, 0])
    {hs : (xRows off hin).view.WordExact} {hd : (xSlot sl).view.WordExact} {hsem} {Q : PUnit → sProp 𝕄} :
    iprop((∃ f, xP (F := F) d L sl f) ∗ semVal (dcell d L (sIn sl).sem) 0 ∗ bigSep Finset.univ (fun t' : Fin 16 => xStrip d L x sl t'.val))
      ⊢ iprop((InSt d L x sl t -∗ Q ⟨⟩)
          -∗ Wp d L (Prog.lift (.enqueueDma (xRows off hin) (.here (xSlot sl)) (.dma (sIn sl).sem) hs hd hsem)) Q) := by
  unfold InSt
  rw [if_pos ht, fam_split (⟨t, ht⟩ : Fin 16)]
  iintro ⟨⟨%f, Hx⟩, Hsem, Hs, Hhome⟩ Hk
  iapply (wp_dmaLocal EC 𝒱₀ (VT d L) none (k := Prog.ret) (Q := Q) (src := xRows off hin) (dst := xSlot sl) (fs := x) (fd := f) (none : HIx 1) (NX sl) rfl (View.dmaCredit_pos _ (by decide)) (Finset.Subset.refl _)) $$ [Hx Hsem Hs]
  · isplitl [Hs]
    · rw [xRows_set hin hoff]; iexact Hs
    isplitl [Hx]; · iexact Hx
    iexact Hsem
  iintro Hfl
  rw [wp_ret]
  imodintro
  iapply Hk
  isplitl [Hfl]
  · iapply (Flight_mono EC (VT d L) ?hm) $$ Hfl
    case hm =>
      rw [xRows_set hin hoff]
      iintro ⟨Hx, Hs⟩
      isplitl [Hx]
      · iexists _
        isplitr; swap
        · iexact Hx
        ipureintro
        exact in_lands hin hoff f
      iexact Hs
  iexact Hhome

theorem issueIn_wp {sl : Fin 2} {t : Fin k1_t1_loop.trips} {Q : PUnit → sProp 𝕄} :
    iprop((∃ f, xP (F := F) d L sl f) ∗ semVal (dcell d L (sIn sl).sem) 0 ∗ bigSep Finset.univ (fun t' : Fin 16 => xStrip d L x sl t'.val))
      ⊢ iprop((InSt d L x sl (t.val + 1) -∗ Q ⟨⟩) -∗ Wp d L (issueIn L sl t) Q) := by
  unfold issueIn
  by_cases h : inCond sl t = 1#1
  · rw [dif_pos h]
    exact issueIn_some ((inCond_iff sl t).mp h) _ (nextOff_eq L sl t)
  · rw [dif_neg h, Prog.pure_eq_ret]
    have h0 : ¬ t.val + 1 < 16 := fun hlt => h ((inCond_iff sl t).mpr hlt)
    unfold InSt
    rw [if_neg h0, fam_all (fun t' => by omega)]
    iintro ⟨Hx, Hsem, Hhome⟩ Hk
    iapply Wp_ret
    iapply Hk
    isplitl [Hx Hsem]
    · isplitl [Hx]; · iexact Hx
      iexact Hsem
    iexact Hhome

/-- A computed strip's write-back issued. -/
theorem issueOut_wp {sl : Fin 2} {t : Fin k1_t1_loop.trips} {Q : PUnit → sProp 𝕄} :
    iprop((∃ fo, ⌜Done sl (gAt d L x v3 sl t.val) (Upto 4 0) fo⌝ ∗ oP d L sl fo) ∗ semVal (dcell d L (sOut sl).sem) 0
        ∗ bigSep Finset.univ (oAt d L x v3 sl (t.val + 1)))
      ⊢ iprop((OutSt d L x v3 sl (t.val + 1) -∗ Q ⟨⟩) -∗ Wp d L (issueOut L sl t) Q) := by
  have ht := t16 t
  have hoff := off54_eq L sl t
  unfold OutSt issueOut
  rw [if_neg (Nat.succ_ne_zero _), fam_split (⟨t.val, ht⟩ : Fin 16), oAt_todo (t' := (⟨t.val, ht⟩ : Fin 16)) (show ¬ t.val + 1 < t.val + 1 by omega), Nat.add_sub_cancel]
  iintro ⟨⟨%fo, %hfo, Ho⟩, Hsem, ⟨%f, Hs⟩, Hhome⟩ Hk
  iapply (wp_dmaLocal EC 𝒱₀ (VT d L) none (k := Prog.ret) (Q := Q) (src := oSlot sl) (dst := oRows (k1_off54 L t (slW sl)) (k1_off54_inb L t sl)) (fs := fo) (fd := f)
      (Sd := rowsSet (rowN L sl t.val)) (none : HIx 1) NO rfl (View.dmaCredit_pos _ (by decide)) (by rw [oRows_set _ hoff])) $$ [Ho Hsem Hs]
  · isplitl [Ho]; · iexact Ho
    isplitl [Hs]; · iexact Hs
    iexact Hsem
  iintro Hfl
  rw [wp_ret]
  imodintro
  iapply Hk
  isplitl [Hfl]
  · iapply (Flight_mono EC (VT d L) ?hm) $$ Hfl
    case hm =>
      iintro ⟨Hs, Ho⟩
      isplitl [Hs]
      · iapply (Entails.of_eq (pointsTo_congr (out_lands ht (k1_off54_inb L t sl) hoff fo hfo f))) $$ Hs
      iexists fo
      iexact Ho
  rw [show (Finset.univ.filter fun t' : Fin 16 => t'.val + 1 ≠ t.val + 1) = (Finset.univ.filter fun t' : Fin 16 => t'.val ≠ t.val) from
    Finset.filter_congr fun t' _ => by omega]
  iexact Hhome

/-! ## The trip -/

/-- The coefficients' scratch holds the task's table. -/
def COK (d : Dev nD) (L : grid1.Coords) (v3 : Buf (Elt F) (cLoc d)) (fc : S16384.Idx → Elt F .f32) : Prop :=
  ∀ n : Fin 16384, fc (ix1 n) = v3 (ix1 ⟨32768 * (L 1).val + 16384 * (L 0).val + n.val, by
    have h0 : (L 0).val < 2 := (L 0).isLt
    have h1 : (L 1).val < 16 := (L 1).isLt
    omega⟩)

theorem row_at {sl : Fin 2} {t : Fin k1_t1_loop.trips} {fc : Buf (Elt F) (cbLoc d L)} {fx : Buf (Elt F) (xbLoc d L)} {g}
    (h : RowSums sl t fc fx g) (r : Fin 4) (n n' : ℕ) (hn : r.val = n) (hn' : r.val + 1 = n') :
    iprop(xP d L sl fx ∗ cP d L fc ∗ ∃ fo, ⌜Done sl g (Upto n 0) fo⌝ ∗ oP d L sl fo)
      ⊢ Wp d L (row L sl t r) fun _ => iprop(xP d L sl fx ∗ cP d L fc ∗ ∃ fo, ⌜Done sl g (Upto n' 0) fo⌝ ∗ oP d L sl fo) := by
  subst hn hn'
  exact row_wp h r

theorem half_wp {fc : Buf (Elt F) (cbLoc d L)} (hc : COK d L v3 fc) (sl : Fin 2) (t : Fin k1_t1_loop.trips) :
    iprop(InSt d L x sl t.val ∗ OutSt d L x v3 sl t.val ∗ cP d L fc ∗ Owes d L O W ∗ MayWaits (VT d L) none O)
      ⊢ Wp d L (half L sl t) fun _ => iprop(InSt d L x sl (t.val + 1) ∗ OutSt d L x v3 sl (t.val + 1) ∗ cP d L fc ∗ Owes d L O W) := by
  iintro ⟨Hin, Hout, Hc, HO, #Hmw⟩
  unfold half
  rw [Wp_bind]
  iapply waitIn_wp $$ [Hin HO]
  · isplitl [Hin]; · iexact Hin
    isplitl [HO]; · iexact HO
    iexact Hmw
  iintro ⟨⟨%fx, %hfx, Hx⟩, Hsin, Hxs, HO⟩
  rw [Wp_bind]
  iapply waitOut_wp $$ [Hout HO]
  · isplitl [Hout]; · iexact Hout
    isplitl [HO]; · iexact HO
    iexact Hmw
  iintro ⟨⟨%f, Ho⟩, Hsout, Hos, HO⟩
  have hs := rowSums hc hfx
  iapply (Wp_seq d L (row_at hs 0 0 1 rfl rfl)) $$ [Hx Hc Ho]
  · isplitl [Hx]; · iexact Hx
    isplitl [Hc]; · iexact Hc
    iexists f
    isplitr
    · ipureintro
      intro r c s w h
      unfold Upto at h
      exact absurd h (by simp)
    iexact Ho
  iintro %_ Hrow
  iapply (Wp_seq d L (row_at hs 1 1 2 rfl rfl)) $$ Hrow
  iintro %_ Hrow
  iapply (Wp_seq d L (row_at hs 2 2 3 rfl rfl)) $$ Hrow
  iintro %_ Hrow
  iapply (Wp_seq d L (row_at hs 3 3 4 rfl rfl)) $$ Hrow
  iintro %_ ⟨Hx, Hc, Ho⟩
  rw [Wp_bind]
  iapply issueOut_wp $$ [Ho Hsout Hos]
  · isplitl [Ho]; · iexact Ho
    isplitl [Hsout]; · iexact Hsout
    iexact Hos
  iintro Hout
  iapply issueIn_wp $$ [Hx Hsin Hxs]
  · isplitl [Hx]
    · iexists fx; iexact Hx
    isplitl [Hsin]; · iexact Hsin
    iexact Hxs
  iintro Hin
  isplitl [Hin]; · iexact Hin
  isplitl [Hout]; · iexact Hout
  isplitl [Hc]; · iexact Hc
  iexact HO

/-- What a trip starts from and leaves. -/
def Inv (d : Dev nD) (L : grid1.Coords) (x : Buf (Elt F) (xLoc d)) (v3 : Buf (Elt F) (cLoc d)) (fc : Buf (Elt F) (cbLoc d L))
    (O : CellTallies nD τ sig (HIx 1)) (W : Waits sig (HIx 1)) (t : ℕ) : sProp 𝕄 :=
  iprop((InSt d L x 0 t ∗ OutSt d L x v3 0 t) ∗ (InSt d L x 1 t ∗ OutSt d L x v3 1 t) ∗ cP d L fc ∗ Owes d L O W)

theorem trip_wp {fc : Buf (Elt F) (cbLoc d L)} (hc : COK d L v3 fc) (t : Fin k1_t1_loop.trips) (u : Unit) :
    iprop(Inv d L x v3 fc O W t.val ∗ MayWaits (VT d L) none O)
      ⊢ Wp d L (trip L t u) fun _ => iprop(Inv d L x v3 fc O W (t.val + 1) ∗ MayWaits (VT d L) none O) := by
  unfold Inv
  iintro ⟨⟨⟨Hi0, Ho0⟩, ⟨Hi1, Ho1⟩, Hc, HO⟩, #Hmw⟩
  unfold trip
  iapply (Wp_seq d L (half_wp hc 0 t)) $$ [Hi0 Ho0 Hc HO]
  · isplitl [Hi0]; · iexact Hi0
    isplitl [Ho0]; · iexact Ho0
    isplitl [Hc]; · iexact Hc
    isplitl [HO]; · iexact HO
    iexact Hmw
  iintro %_ ⟨Hi0, Ho0, Hc, HO⟩
  iapply (Wp_seq d L (half_wp hc 1 t)) $$ [Hi1 Ho1 Hc HO]
  · isplitl [Hi1]; · iexact Hi1
    isplitl [Ho1]; · iexact Ho1
    isplitl [Hc]; · iexact Hc
    isplitl [HO]; · iexact HO
    iexact Hmw
  iintro %_ ⟨Hi1, Ho1, Hc, HO⟩
  rw [Prog.pure_eq_ret]
  iapply Wp_ret
  isplitl [Hi0 Ho0 Hi1 Ho1 Hc HO]; swap
  · iexact Hmw
  isplitl [Hi0 Ho0]
  · isplitl [Hi0]; · iexact Hi0
    iexact Ho0
  isplitl [Hi1 Ho1]
  · isplitl [Hi1]; · iexact Hi1
    iexact Ho1
  isplitl [Hc]; · iexact Hc
  iexact HO

/-! ## The body -/

/-- The task's stretch of the coefficient table. -/
def cSet (L : grid1.Coords) : Finset S524288.Idx :=
  Finset.univ.filter fun i => 32768 * (L 1).val + 16384 * (L 0).val ≤ (i 0).val ∧ (i 0).val < 32768 * (L 1).val + 16384 * (L 0).val + 16384

abbrev cRow (L : grid1.Coords) : Memref sig .scVector .hbm S16384 .f32 :=
  cA.slice (Rect.unit (s := S524288) (k1_off1 L) S16384.size (k1_off1_inb L)) (fun _ => rfl)

theorem cRow_set (L : grid1.Coords) : (cRow L).view.set = cSet L := by
  show ((View.whole main_v3_scv).slice (Rect.unit (s := S524288) (k1_off1 L) S16384.size (k1_off1_inb L))).set = _
  rw [View.set_slice_whole]
  ext i
  rw [cSet, Finset.mem_filter]
  refine Rect.mem_set_unit.trans ?_
  rw [k1_off1_eq]
  exact ⟨fun h => ⟨Finset.mem_univ _, h 0⟩, fun h a => by
    match a with
    | ⟨0, _⟩ => exact h.2⟩

theorem c_lands (f : Buf (Elt F) (cbLoc d L)) :
    COK d L v3 (cB.view.write (Elt F) f ((cRow L).view.read (Elt F) v3) Finset.univ) := by
  intro n
  rw [show cB.view.write (Elt F) f ((cRow L).view.read (Elt F) v3) Finset.univ = (cRow L).view.read (Elt F) v3 from View.write_whole_univ _ _ _]
  rw [View.read_apply]
  show v3 ((Rect.unit (s := S524288) (k1_off1 L) S16384.size (k1_off1_inb L)).emb (ix1 n)) = _
  congr 1
  funext a
  apply Fin.ext
  rw [Rect.emb_apply]
  match a with
  | ⟨0, _⟩ =>
    show k1_off1 L 0 + 1 * n.val = _
    rw [k1_off1_eq]
    show 32768 * (L 1).val + 16384 * (L 0).val + 1 * n.val = 32768 * (L 1).val + 16384 * (L 0).val + n.val
    omega

theorem fetchC_wp {α : Type} (k : PUnit → TP (F := F) L α) {Q : α → sProp 𝕄} :
    iprop((cLoc d ↦[cSet L]{fullShare} v3) ∗ (∃ f, cP (F := F) d L f) ∗ semVal (dcell d L cc1_scoped0.sem) 0 ∗ owes (VT d L) O W ∗ MayWaits (VT d L) none O)
      ⊢ iprop((iprop((cLoc d ↦[cSet L]{fullShare} v3) ∗ (∃ fc, ⌜COK d L v3 fc⌝ ∗ cP d L fc) ∗ semVal (dcell d L cc1_scoped0.sem) 0 ∗ Owes d L O W)
            -∗ Wp d L (k ⟨⟩) Q)
          -∗ Wp d L (fetchC L >>= k) Q) := by
  iintro ⟨Hv, ⟨%f, Hc⟩, Hsem, HO, Hmw⟩ Hk
  unfold fetchC
  simp only [Prog.lift, Prog.bind_op, Prog.bind_ret]
  iapply (wp_dmaLocal EC 𝒱₀ (VT d L) none (Q := Q) (src := cRow L) (dst := cB) (fs := v3) (fd := f) (none : HIx 1) cB.view.dmaCredit rfl (View.dmaCredit_pos _ (by decide)) (Finset.subset_univ _)) $$ [Hv Hc Hsem]
  · isplitl [Hv]
    · rw [cRow_set]; iexact Hv
    isplitl [Hc]; · iexact Hc
    iexact Hsem
  iintro Hfl
  iapply (wp_waitLocalO EC 𝒱₀ (VT d L) none (none : HIx 1) rfl) $$ [Hfl HO Hmw]
  · isplitl [Hfl]; · iexact Hfl
    isplitl [HO]; · iexact HO
    iapply (MayWaits.elim (SemLoc.dma cc1_scoped0.sem)) $$ Hmw
  iintro ⟨⟨Hc, Hv⟩, Hsem, HO⟩
  iapply Hk
  isplitl [Hv]
  · rw [cRow_set]; iexact Hv
  isplitl [Hc]
  · iexists _
    isplitr; swap
    · iexact Hc
    ipureintro
    exact c_lands f
  isplitl [Hsem]; · iexact Hsem
  unfold Owes
  iexists _
  isplitr; swap
  · iexact HO
  ipureintro
  intro p hp
  rcases Finset.mem_insert.mp hp with rfl | hp
  · exact .inr rfl
  · exact .inl hp

/-- Two halves of a buffer held apart make it whole at some contents. -/
theorem join_two {ℓ : Loc nD τ sig} {I J : Finset (Idx ℓ)} (hd : Disjoint I J) (hu : I ∪ J = Finset.univ) :
    iprop((∃ f, ℓ ↦[I]{fullShare} f) ∗ ∃ f, ℓ ↦[J]{fullShare} f) ⊢ (iprop(∃ f : Buf (Elt F) ℓ, ℓ ↦{fullShare} f) : sProp 𝕄) := by
  classical
  iintro ⟨⟨%f, Hf⟩, ⟨%g, Hg⟩⟩
  iexists (fun i => if i ∈ I then f i else g i)
  rw [show (ℓ ↦{fullShare} (fun i => if i ∈ I then f i else g i) : sProp 𝕄) = ℓ ↦[I ∪ J]{fullShare} (fun i => if i ∈ I then f i else g i) by rw [hu]]
  iapply (pointsTo_union hd).2
  isplitl [Hf]
  · rw [pointsTo_congr (g := f) fun i hi => if_pos hi]; iexact Hf
  · rw [pointsTo_congr (g := g) fun i hi => if_neg fun h => (Finset.disjoint_left.mp hd h hi)]; iexact Hg

theorem split_two {ℓ : Loc nD τ sig} {I J : Finset (Idx ℓ)} (hd : Disjoint I J) (hu : I ∪ J = Finset.univ) :
    (iprop(∃ f : Buf (Elt F) ℓ, ℓ ↦{fullShare} f) : sProp 𝕄) ⊢ iprop((∃ f, ℓ ↦[I]{fullShare} f) ∗ ∃ f, ℓ ↦[J]{fullShare} f) := by
  iintro ⟨%f, Hf⟩
  ihave Hf := (Entails.of_eq (show (ℓ ↦{fullShare} f : sProp 𝕄) = ℓ ↦[I ∪ J]{fullShare} f by rw [hu])) $$ Hf
  ihave H := (show (ℓ ↦[I ∪ J]{fullShare} f : sProp 𝕄) ⊢ iprop((ℓ ↦[I]{fullShare} f) ∗ ℓ ↦[J]{fullShare} f) from (pointsTo_union hd).1) $$ Hf
  icases H with ⟨Hf, Hg⟩
  isplitl [Hf]
  · iexists f; iexact Hf
  · iexists f; iexact Hg

theorem xSlots_disjoint : Disjoint (xSlot 0).view.set (xSlot 1).view.set := by
  rw [xSlot_set, xSlot_set, Finset.disjoint_filter]; intro i _ h h'; rw [h] at h'; exact absurd h' (by decide)
theorem oSlots_disjoint : Disjoint (oSlot 0).view.set (oSlot 1).view.set := by
  rw [oSlot_set, oSlot_set, Finset.disjoint_filter]; intro i _ h h'; rw [h] at h'; exact absurd h' (by decide)
theorem xSlots_union : (xSlot 0).view.set ∪ (xSlot 1).view.set = Finset.univ := by
  rw [xSlot_set, xSlot_set]
  ext i
  have h : (i 0).val < 2 := (i 0).isLt
  simp only [Finset.mem_union, Finset.mem_filter, Finset.mem_univ, true_and, iff_true, Fin.val_zero, Fin.val_one]
  omega
theorem oSlots_union : (oSlot 0).view.set ∪ (oSlot 1).view.set = Finset.univ := by
  rw [oSlot_set, oSlot_set]
  ext i
  have h : (i 0).val < 2 := (i 0).isLt
  simp only [Finset.mem_union, Finset.mem_filter, Finset.mem_univ, true_and, iff_true, Fin.val_zero, Fin.val_one]
  omega

/-- The task's parts of the arrays: its rows of the operand, its coefficients, its rows of the result. -/
abbrev xPiece (d : Dev nD) (L : grid1.Coords) (x : Buf (Elt F) (xLoc d)) : sProp 𝕄 :=
  iprop(bigSep Finset.univ (fun t' : Fin 16 => xStrip d L x 0 t'.val) ∗ bigSep Finset.univ (fun t' : Fin 16 => xStrip d L x 1 t'.val))
abbrev cPiece (d : Dev nD) (L : grid1.Coords) (v3 : Buf (Elt F) (cLoc d)) : sProp 𝕄 := cLoc d ↦[cSet L]{fullShare} v3
abbrev oPiece (d : Dev nD) (L : grid1.Coords) (f : Buf (Elt F) (oLoc d)) : sProp 𝕄 :=
  iprop(bigSep Finset.univ (fun t' : Fin 16 => oStrip d L 0 t'.val f) ∗ bigSep Finset.univ (fun t' : Fin 16 => oStrip d L 1 t'.val f))

/-- The buffers and semaphores of the task. -/
abbrev Own (d : Dev nD) (L : grid1.Coords) : sProp 𝕄 :=
  iprop(((∃ f, xbLoc d L ↦{fullShare} f) ∗ (∃ f, cbLoc d L ↦{fullShare} f) ∗ ∃ f, obLoc d L ↦{fullShare} f)
    ∗ semVal (dcell d L cc1_scoped0.sem) 0 ∗ semVal (dcell d L (sIn 0).sem) 0 ∗ semVal (dcell d L (sIn 1).sem) 0
    ∗ semVal (dcell d L (sOut 0).sem) 0 ∗ semVal (dcell d L (sOut 1).sem) 0)

theorem oAt_start (sl : Fin 2) (f : Buf (Elt F) (oLoc d)) :
    bigSep Finset.univ (fun t' : Fin 16 => oStrip d L sl t'.val f) ⊢ bigSep Finset.univ (oAt d L x v3 sl 0) :=
  BI.bigSep_mono fun t' _ => by
    rw [oAt_todo (by omega)]
    exact (show (oStrip d L sl t'.val f : sProp 𝕄) ⊢ iprop(∃ f, oStrip d L sl t'.val f) by iintro H; iexists f; iexact H)
theorem oAt_end (sl : Fin 2) :
    bigSep Finset.univ (oAt d L x v3 sl 17) = bigSep Finset.univ (fun t' : Fin 16 => oStrip d L sl t'.val (tgt x v3)) :=
  BI.bigSep_congr fun t' _ => oAt_done (by omega)

theorem outSt_start (sl : Fin 2) (f : Buf (Elt F) (oLoc d)) :
    iprop((∃ f, oP (F := F) d L sl f) ∗ semVal (dcell d L (sOut sl).sem) 0 ∗ bigSep Finset.univ (fun t' : Fin 16 => oStrip d L sl t'.val f))
      ⊢ OutSt d L x v3 sl 0 := by
  unfold OutSt
  rw [if_pos rfl, fam_all (fun t' => by omega)]
  iintro ⟨Ho, Hsem, Hs⟩
  isplitl [Ho Hsem]
  · isplitl [Ho]; · iexact Ho
    iexact Hsem
  iapply (oAt_start sl f) $$ Hs

theorem inSt_end (sl : Fin 2) :
    InSt d L x sl 16 ⊢ iprop(((∃ f, xP (F := F) d L sl f) ∗ semVal (dcell d L (sIn sl).sem) 0) ∗ bigSep Finset.univ (fun t' : Fin 16 => xStrip d L x sl t'.val)) := by
  unfold InSt
  rw [if_neg (by decide), fam_all (fun t' => by omega)]

theorem Wp_wp {α : Type} (p : TP (F := F) L α) (Q : α → sProp 𝕄) :
    Wp d L p Q ⊢ wp frame (wpE (defs₀ (F := F)) 𝒱₀ (VT d L) none) Set.univ p Q := .rfl

theorem body_wp (f : Buf (Elt F) (oLoc d)) :
    iprop(xPiece d L x ∗ cPiece d L v3 ∗ oPiece d L f ∗ Own (F := F) d L ∗ owes (VT d L) O W ∗ MayWaits (VT d L) none O)
      ⊢ Wp d L (body L) fun _ => iprop(xPiece d L x ∗ cPiece d L v3 ∗ oPiece d L (tgt x v3) ∗ Own (F := F) d L ∗ Owes d L O W) := by
  iintro ⟨⟨Hx0, Hx1⟩, Hv, ⟨Ho0, Ho1⟩, ⟨⟨Hxb, Hcb, Hob⟩, Hs0, Hi0, Hi1, Hu0, Hu1⟩, HO, #Hmw⟩
  ihave Hxb := (split_two xSlots_disjoint xSlots_union) $$ Hxb
  ihave Hob := (split_two oSlots_disjoint oSlots_union) $$ Hob
  icases Hxb with ⟨Hxb0, Hxb1⟩
  icases Hob with ⟨Hob0, Hob1⟩
  unfold body
  iapply (fetchC_wp (v3 := v3)) $$ [Hv Hcb Hs0 HO]
  · isplitl [Hv]; · iexact Hv
    isplitl [Hcb]; · iexact Hcb
    isplitl [Hs0]; · iexact Hs0
    isplitl [HO]; · iexact HO
    iexact Hmw
  iintro ⟨Hv, ⟨%fc, %hc, Hc⟩, Hs0, HO⟩
  rw [Wp_bind]
  unfold firstIn
  iapply (issueIn_some (sl := 0) (t := 0) (x := x) (by decide) _ (off2_eq L 0)) $$ [Hxb0 Hi0 Hx0]
  · isplitl [Hxb0]; · iexact Hxb0
    isplitl [Hi0]; · iexact Hi0
    iexact Hx0
  iintro Hin0
  rw [Wp_bind]
  iapply (issueIn_some (sl := 1) (t := 0) (x := x) (by decide) _ (off2_eq L 1)) $$ [Hxb1 Hi1 Hx1]
  · isplitl [Hxb1]; · iexact Hxb1
    isplitl [Hi1]; · iexact Hi1
    iexact Hx1
  iintro Hin1
  ihave Hout0 := (outSt_start (x := x) (v3 := v3) 0 f) $$ [Hob0 Hu0 Ho0]
  · isplitl [Hob0]; · iexact Hob0
    isplitl [Hu0]; · iexact Hu0
    iexact Ho0
  ihave Hout1 := (outSt_start (x := x) (v3 := v3) 1 f) $$ [Hob1 Hu1 Ho1]
  · isplitl [Hob1]; · iexact Hob1
    isplitl [Hu1]; · iexact Hu1
    iexact Ho1
  iapply (Scf.wp_for_bind frame (wpE (defs₀ (F := F)) 𝒱₀ (VT d L) none) Set.univ _ _ _ k1_t1_ok ⟨⟩ _
    (fun k _ => iprop(Inv d L x v3 fc O W k ∗ MayWaits (VT d L) none O)) (fun k u => trip_wp hc k u)) $$ [Hin0 Hin1 Hout0 Hout1 Hc HO]
  · isplitl [Hin0 Hin1 Hout0 Hout1 Hc HO]; swap
    · iexact Hmw
    unfold Inv
    isplitl [Hin0 Hout0]
    · isplitl [Hin0]; · iexact Hin0
      iexact Hout0
    isplitl [Hin1 Hout1]
    · isplitl [Hin1]; · iexact Hin1
      iexact Hout1
    isplitl [Hc]; · iexact Hc
    iexact HO
  iintro %u ⟨Hinv, -⟩
  rw [show Scf.trips k1_t1_loop.lb k1_t1_loop.ub k1_t1_loop.st = 16 from trips1]
  unfold Inv
  icases Hinv with ⟨⟨Hin0, Hout0⟩, ⟨Hin1, Hout1⟩, Hc, HO⟩
  ihave Hin0 := (inSt_end 0) $$ Hin0
  ihave Hin1 := (inSt_end 1) $$ Hin1
  icases Hin0 with ⟨⟨Hxb0, Hi0⟩, Hx0⟩
  icases Hin1 with ⟨⟨Hxb1, Hi1⟩, Hx1⟩
  unfold lastOut
  iapply Wp_wp
  rw [Wp_bind]
  iapply (waitOut_some (sl := 0) (t := 16) (by decide) (by decide)) $$ [Hout0 HO]
  · isplitl [Hout0]; · iexact Hout0
    isplitl [HO]; · iexact HO
    iexact Hmw
  iintro ⟨Hob0, Hu0, Ho0, HO⟩
  iapply (waitOut_some (sl := 1) (t := 16) (by decide) (by decide)) $$ [Hout1 HO]
  · isplitl [Hout1]; · iexact Hout1
    isplitl [HO]; · iexact HO
    iexact Hmw
  iintro ⟨Hob1, Hu1, Ho1, HO⟩
  ihave Ho0 := (Entails.of_eq (oAt_end 0)) $$ Ho0
  ihave Ho1 := (Entails.of_eq (oAt_end 1)) $$ Ho1
  isplitl [Hx0 Hx1]
  · isplitl [Hx0]; · iexact Hx0
    iexact Hx1
  isplitl [Hv]; · iexact Hv
  isplitl [Ho0 Ho1]
  · isplitl [Ho0]; · iexact Ho0
    iexact Ho1
  isplitr [HO]; swap
  · iexact HO
  isplitl [Hxb0 Hxb1 Hob0 Hob1 Hc]
  · isplitl [Hxb0 Hxb1]
    · iapply (join_two xSlots_disjoint xSlots_union)
      isplitl [Hxb0]; · iexact Hxb0
      iexact Hxb1
    isplitl [Hc]
    · iexists fc; iexact Hc
    iapply (join_two oSlots_disjoint oSlots_union)
    isplitl [Hob0]; · iexact Hob0
    iexact Hob1
  isplitl [Hs0]; · iexact Hs0
  isplitl [Hi0]; · iexact Hi0
  isplitl [Hi1]; · iexact Hi1
  isplitl [Hu0]; · iexact Hu0
  iexact Hu1

end Transfers

end Cert.Proof.Sc

end
-- ==== Proof.ScLaunch.lean ====
/-
  The SparseCore call's obligations to the launch theorem: what each task is handed and hands back, the task's body
  run from it, and how the arrays split among the tasks.
-/
module

public import proofs.«01_k».proof.Proof.ScTile

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 1) (Elt F) ℕ UU ℕ

/-! ## What passes at the call -/

def coordsV (c : Fin (grid1.bound 0)) (s : Fin (grid1.bound 1)) : grid1.Coords :=
  fun | 0 => c | 1 => s | ⟨_ + 2, h⟩ => absurd h (Nat.not_lt.2 (Nat.le_add_left _ _))

/-- What a task holds of the arrays, the result at `f`. -/
def Task (d : Dev nD) (L : grid1.Coords) (x : Buf (Elt F) (xLoc d)) (v3 : Buf (Elt F) (cLoc d)) (f : Buf (Elt F) (oLoc d)) : sProp 𝕄 :=
  iprop(xPiece d L x ∗ cPiece d L v3 ∗ oPiece d L f)

instance task_storable (d : Dev nD) (L : grid1.Coords) (x : Buf (Elt F) (xLoc d)) (v3 : Buf (Elt F) (cLoc d)) (f : Buf (Elt F) (oLoc d)) :
    BI.Storable (upEmb : UEmb _ 𝕄) (Task d L x v3 f) := by unfold Task; infer_instance

/-- The contents at the call: the operand, the coefficients, the result as it was. -/
structure At (F : FTy → Type) where
  x : (d : Dev nD) → Buf (Elt F) (xLoc d)
  v3 : (d : Dev nD) → Buf (Elt F) (cLoc d)
  f0 : (d : Dev nD) → Buf (Elt F) (oLoc d)

variable (A : At F)

theorem nCore_eq (q : Fin 1) : (K (F := F)).nCore q = grid1.bound 0 := match q with | 0 => rfl
theorem nSub_eq (q : Fin 1) : (K (F := F)).nSub q = grid1.bound 1 := match q with | 0 => rfl

def P : (K (F := F)).Pay (nD := nD) (Val := Elt F) (Name := ℕ) (U := UU) where
  st := fun q d c => bigSep (Finset.univ : Finset (Fin ((K (F := F)).nSub q))) fun i => Task d (coordsV (c.cast (nCore_eq _)) (i.cast (nSub_eq _))) (A.x d) (A.v3 d) (A.f0 d)
  dn := fun q d c => bigSep (Finset.univ : Finset (Fin ((K (F := F)).nSub q))) fun i => Task d (coordsV (c.cast (nCore_eq _)) (i.cast (nSub_eq _))) (A.x d) (A.v3 d) (tgt (A.x d) (A.v3 d))
  go := fun _ d c i => Task d (coordsV (c.cast (nCore_eq _)) (i.cast (nSub_eq _))) (A.x d) (A.v3 d) (A.f0 d)
  td := fun _ d c i => Task d (coordsV (c.cast (nCore_eq _)) (i.cast (nSub_eq _))) (A.x d) (A.v3 d) (tgt (A.x d) (A.v3 d))
  x := fun _ _ => iprop(emp)

instance P_storable : (P A).IsStorable where
  st _ d c := by unfold P; infer_instance
  dn _ d c := by unfold P; infer_instance
  go _ _ _ _ := by unfold P; infer_instance
  td _ _ _ _ := by unfold P; infer_instance

/-! ## The task -/

theorem tile_body (d : Dev nD) (L : grid1.Coords) (x : Buf (Elt F) (xLoc d)) (v3 : Buf (Elt F) (cLoc d)) (f : Buf (Elt F) (oLoc d))
    (hF : (K (F := F)).Facts) (O : CellTallies nD τ sig (HIx 1)) (W : Waits sig (HIx 1)) (hO : ∀ g, O g none = 0) :
    iprop(levAts (K (F := F)).L (K (F := F)).lev ∗ emp ∗ Task d L x v3 f ∗ scopedBufs (VT d L) ∗ scopedSems0 (VT d L) ∗ owes (VT d L) O W)
      ⊢ wp frame (wpE (defs₀ (F := F)) 𝒱₀ (VT d L) none) Set.univ
          (cc1__sc_body (F := F) L xA (Memref.isWhole_whole _) cA (Memref.isWhole_whole _) oA (Memref.isWhole_whole _) xB (Memref.isWhole_whole _)
            cB (Memref.isWhole_whole _) oB (Memref.isWhole_whole _) cc1_scratch3 cc1_scratch4 cc1_scratch5 cc1_scratch6 cc1_scoped0)
          fun _ => iprop(Task d L x v3 (tgt x v3) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V, body_eq]
  unfold Task
  iintro ⟨#Hlv, -, ⟨Hx, Hv, Ho⟩, ⟨Hxb, Hcb, Hob, Hbufs⟩, ⟨Hs0, Hi0, Hi1, Hu0, Hu1, Hsems⟩, HO⟩
  ihave Hmw := (show levAts (K (F := F)).L (K (F := F)).lev ⊢ MayWaits (VT d L) (none : HIx 1) O from
    (K (F := F)).mayWaits_none (thr := VT d L) hO) $$ Hlv
  iapply (wp_wand_r Idealize.ShloMosaic.frame (wpE (defs₀ (F := F)) 𝒱₀ (VT d L) none) Set.univ)
  isplitl [Hx Hv Ho Hxb Hcb Hob Hs0 Hi0 Hi1 Hu0 Hu1 HO]
  · iapply (body_wp (d := d) (L := L) (x := x) (v3 := v3) (O := O) (W := W) f)
    isplitl [Hx]; · iexact Hx
    isplitl [Hv]; · iexact Hv
    isplitl [Ho]; · iexact Ho
    isplitr [HO]; swap
    · isplitl [HO]; · iexact HO
      iexact Hmw
    isplitl [Hxb Hcb Hob]
    · isplitl [Hxb]; · iexact Hxb
      isplitl [Hcb]; · iexact Hcb
      iexact Hob
    isplitl [Hs0]; · iexact Hs0
    isplitl [Hi0]; · iexact Hi0
    isplitl [Hi1]; · iexact Hi1
    isplitl [Hu0]; · iexact Hu0
    iexact Hu1
  unfold Owes
  iintro %_ ⟨Hx, Hv, Ho, ⟨⟨Hxb, Hcb, Hob⟩, Hs0, Hi0, Hi1, Hu0, Hu1⟩, ⟨%W', %hW', HO⟩⟩
  isplitl [Hx Hv Ho]
  · isplitl [Hx]; · iexact Hx
    isplitl [Hv]; · iexact Hv
    iexact Ho
  isplitl [Hxb Hcb Hob Hbufs]
  · isplitl [Hxb]; · iexact Hxb
    isplitl [Hcb]; · iexact Hcb
    isplitl [Hob]; · iexact Hob
    iexact Hbufs
  isplitl [Hs0 Hi0 Hi1 Hu0 Hu1 Hsems]
  · isplitl [Hs0]; · iexact Hs0
    isplitl [Hi0]; · iexact Hi0
    isplitl [Hi1]; · iexact Hi1
    isplitl [Hu0]; · iexact Hu0
    isplitl [Hu1]; · iexact Hu1
    iexact Hsems
  iexists W'; isplitr
  · ipureintro; exact fun p hp => (hW' p hp).imp_right Or.inl
  · iexact HO

theorem defs₀_vector (c : Fin τ.nSC) (s : Fin τ.nSub) :
    defs₀ (F := F) (.scVector c s) 1 ()
      = SparseCore.onTile hcore1 hsub1 (fun c s => cc1__sc_body (F := F) (coordsV c s) xA (Memref.isWhole_whole _) cA (Memref.isWhole_whole _)
          oA (Memref.isWhole_whole _) xB (Memref.isWhole_whole _) cB (Memref.isWhole_whole _) oB (Memref.isWhole_whole _)
          cc1_scratch3 cc1_scratch4 cc1_scratch5 cc1_scratch6 cc1_scoped0) ⟨⟩ c s := rfl

theorem tileObl : (K (F := F)).TileObl (D (F := F)) 𝒱 (P A) v₀ 0 := by
  intro d c i O W hO _ _
  simp only [show (P A).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (A.x d) (A.v3 d) (A.f0 d) facts O W hO

/-- What is handed over is handed on as it is, and what comes back likewise. -/
theorem handed {X Y : sProp 𝕄} : X ⊢ |={Set.univ}=> iprop(X ∗ (Y -∗ Y)) := by
  iintro H; imodintro
  isplitl [H]; · iexact H
  iintro H; iexact H

theorem vecSplit : (K (F := F)).VecSplit' (P A) 0 := by
  intro d c
  unfold P
  exact handed

/-! ## The arrays are the tasks' pieces -/

/-- Rows `n .. n + 3` of an array of 4096 rows, for the strips of all the tasks: the array. -/
theorem strips_eq {ℓ : Loc nD τ sig} (row : Idx ℓ → ℕ) (hrow : ∀ i, row i < 4096) (f : Buf (Elt F) ℓ) :
    (ℓ ↦{fullShare} f : sProp 𝕄)
      = bigSep (Finset.univ : Finset (Fin 2)) fun c => bigSep (Finset.univ : Finset (Fin 16)) fun i =>
          iprop(bigSep (Finset.univ : Finset (Fin 16)) (fun t => ℓ ↦[Finset.univ.filter fun j => rowN (coordsV c i) 0 t.val ≤ row j ∧ row j < rowN (coordsV c i) 0 t.val + 4]{fullShare} f)
            ∗ bigSep (Finset.univ : Finset (Fin 16)) (fun t => ℓ ↦[Finset.univ.filter fun j => rowN (coordsV c i) 1 t.val ≤ row j ∧ row j < rowN (coordsV c i) 1 t.val + 4]{fullShare} f)) := by
  have hN (c : Fin 2) (i : Fin 16) (sl : Fin 2) (t : ℕ) : rowN (coordsV c i) sl t = 256 * i.val + 128 * c.val + 8 * t + 4 * sl.val := rfl
  simp only [hN]
  let S (p : Fin 2 × Fin 16 × Fin 2 × Fin 16) : Finset (Idx ℓ) := Finset.univ.filter fun j =>
    256 * p.2.1.val + 128 * p.1.val + 8 * p.2.2.2.val + 4 * p.2.2.1.val ≤ row j ∧ row j < 256 * p.2.1.val + 128 * p.1.val + 8 * p.2.2.2.val + 4 * p.2.2.1.val + 4
  have hdisj : (↑(Finset.univ : Finset (Fin 2 × Fin 16 × Fin 2 × Fin 16)) : Set _).PairwiseDisjoint S := by
    rintro ⟨c, i, sl, t⟩ - ⟨c', i', sl', t'⟩ - hne
    refine Finset.disjoint_filter.mpr fun j _ h h' => hne ?_
    have := c.isLt; have := c'.isLt; have := i.isLt; have := i'.isLt; have := sl.isLt; have := sl'.isLt; have := t.isLt; have := t'.isLt
    dsimp only at h h'
    simp only [Prod.mk.injEq, Fin.ext_iff]
    omega
  have hcov : Finset.univ.biUnion S = Finset.univ := by
    ext j
    simp only [Finset.mem_biUnion, Finset.mem_univ, true_and, iff_true]
    have := hrow j
    refine ⟨(⟨row j / 128 % 2, by omega⟩, ⟨row j / 256, by omega⟩, ⟨row j / 4 % 2, by omega⟩, ⟨row j / 8 % 16, by omega⟩), ?_⟩
    simp only [S, Finset.mem_filter, Finset.mem_univ, true_and]
    omega
  have key : (ℓ ↦{fullShare} f : sProp 𝕄) = bigSep Finset.univ fun p => ℓ ↦[S p]{fullShare} f := by
    rw [← pointsTo_biUnion Finset.univ (ℓ := ℓ) S hdisj, hcov]
  rw [key, BI.bigSep_univ_prod]
  refine bigSep_congr fun c _ => ?_
  rw [BI.bigSep_univ_prod]
  refine bigSep_congr fun i _ => ?_
  rw [BI.bigSep_univ_prod, BI.bigSep_fin_two]
  rfl

theorem coefs_eq (d : Dev nD) (v3 : Buf (Elt F) (cLoc d)) :
    (cLoc d ↦{fullShare} v3 : sProp 𝕄)
      = bigSep (Finset.univ : Finset (Fin 2)) fun c => bigSep (Finset.univ : Finset (Fin 16)) fun i => cPiece d (coordsV c i) v3 := by
  let S (p : Fin 2 × Fin 16) : Finset S524288.Idx := cSet (coordsV p.1 p.2)
  have hS (p : Fin 2 × Fin 16) : S p = Finset.univ.filter fun j => 32768 * p.2.val + 16384 * p.1.val ≤ (j 0).val ∧ (j 0).val < 32768 * p.2.val + 16384 * p.1.val + 16384 := rfl
  have hdisj : (↑(Finset.univ : Finset (Fin 2 × Fin 16)) : Set _).PairwiseDisjoint S := by
    rintro ⟨c, i⟩ - ⟨c', i'⟩ - hne
    show Disjoint (S _) (S _)
    rw [hS, hS]
    refine Finset.disjoint_filter.mpr fun j _ h h' => hne ?_
    have := c.isLt; have := c'.isLt; have := i.isLt; have := i'.isLt
    dsimp only at h h'
    simp only [Prod.mk.injEq, Fin.ext_iff]
    omega
  have hcov : Finset.univ.biUnion S = Finset.univ := by
    ext j
    simp only [Finset.mem_biUnion, Finset.mem_univ, true_and, iff_true]
    have : (j 0).val < 524288 := (j 0).isLt
    refine ⟨(⟨(j 0).val / 16384 % 2, by omega⟩, ⟨(j 0).val / 32768, by omega⟩), ?_⟩
    rw [hS]
    simp only [Finset.mem_filter, Finset.mem_univ, true_and]
    omega
  have key : (cLoc d ↦{fullShare} v3 : sProp 𝕄) = bigSep Finset.univ fun p => cLoc d ↦[S p]{fullShare} v3 := by
    rw [← pointsTo_biUnion Finset.univ (ℓ := cLoc d) S hdisj, hcov]
  rw [key, BI.bigSep_univ_prod]

theorem tasks_eq (d : Dev nD) (x : Buf (Elt F) (xLoc d)) (v3 : Buf (Elt F) (cLoc d)) (f : Buf (Elt F) (oLoc d)) :
    (bigSep (Finset.univ : Finset (Fin 2)) fun c => bigSep (Finset.univ : Finset (Fin 16)) fun i => Task d (coordsV c i) x v3 f)
      = (iprop((xLoc d ↦{fullShare} x) ∗ (cLoc d ↦{fullShare} v3) ∗ oLoc d ↦{fullShare} f) : sProp 𝕄) := by
  rw [coefs_eq, strips_eq (ℓ := xLoc d) (fun i : S4096x2x4x1024.Idx => (i 0).val) (fun i => (i 0).isLt) x,
    strips_eq (ℓ := oLoc d) (fun i : S4096x2x2x1024.Idx => (i 0).val) (fun i => (i 0).isLt) f]
  unfold Task
  simp only [BI.bigSep_sep']
  rfl

/-- What the call takes, and what it hands back. -/
theorem st_eq (d : Dev nD) : (bigSep Finset.univ fun c : Fin ((K (F := F)).nCore 0) => (P A).st 0 d c)
    = iprop((xLoc d ↦{fullShare} A.x d) ∗ (cLoc d ↦{fullShare} A.v3 d) ∗ oLoc d ↦{fullShare} A.f0 d) := tasks_eq d _ _ _
theorem dn_eq (d : Dev nD) : (bigSep Finset.univ fun c : Fin ((K (F := F)).nCore 0) => (P A).dn 0 d c)
    = iprop((xLoc d ↦{fullShare} A.x d) ∗ (cLoc d ↦{fullShare} A.v3 d) ∗ oLoc d ↦{fullShare} tgt (A.x d) (A.v3 d)) := tasks_eq d _ _ _

end Cert.Proof.Sc

end
-- ==== Proof.ScRun.lean ====
/-
  The whole program's run: @main on the TensorCore — the host's reshapes and transpose, the coefficient region, the
  SparseCore call —, and the launch.
-/
module

public import proofs.«01_k».proof.Proof.TcRegion
public import proofs.«01_k».proof.Proof.ScLaunch

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.StableHlo (held wp_hlo_within)

variable {F : FTy → Type} [FloatOps F]

local notation "𝕄" => MT nD τ sig (HIx 1) (Elt F) ℕ UU ℕ

/-! ## The region's step in the whole program -/

/-- The region's ghost state. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem reg_pre (B : TcAt F) (d : Dev nD) : (tcPre B d : sProp 𝕄) = (reg B).pre d := rfl
theorem reg_post (B : TcAt F) (d : Dev nD) : ((reg B).post d : sProp 𝕄) = tcPost B d := rfl

theorem region_step [∀ e, Nonempty (Elt F e)] (B : TcAt F) (d : Dev nD) (Q : PUnit → sProp 𝕄) :
    iprop(levAts (K (F := F)).L (K (F := F)).lev ∗ boundary (SparseCore.T d) ∗ tcPre B d ∗ G d ∗ (iprop(boundary (SparseCore.T d) ∗ tcPost B d) -∗ Q ⟨⟩))
      ⊢ wp frame (wpE ((K (F := F)).defs (D (F := F))) 𝒱 (SparseCore.T d) none) Set.univ
          (Prog.lift (.customCall (SparseCore.inner (Pipeline.entry 0)) ())) Q := by
  iintro ⟨#Hl, Hb, Hp, ⟨Hg, Ht⟩, Hk⟩
  iapply ((K (F := F)).wp_liftProg (D (F := F)) 𝒱 (SparseCore.T d) Set.univ none (.op (.customCall (Pipeline.entry 0) ()) .ret) Q)
  iapply (Pipeline.RegionSeg.wp (pcfgs (F := F)) adm (pdats B) none cellOf_inj EP defs₀ 𝒱₀ (K (F := F)).L (K (F := F)).lev (reg B) d none
    (fun _ h => nomatch h) .ret Q)
  isplitl [Hk]
  · iintro ⟨Hb, Hp⟩
    ihave Hp := (Entails.of_eq (reg_post B d)) $$ Hp
    rw [wp_ret]; imodintro
    iapply Hk
    isplitl [Hb]; · iexact Hb
    iexact Hp
  isplitl [Hb]; · iexact Hb
  isplitl [Hp]
  · iapply (Entails.of_eq (reg_pre B d)); iexact Hp
  isplitr; · iexact Hl
  isplitl [Hg] <;> iassumption

/-- What the core owes, out of its state before the call and back. -/
theorem tcSt_take (d : Dev nD) :
    ((K (F := F)).tcSt EH d 0 : sProp 𝕄) ⊢ iprop(owesEarly d ∗ (owesEarly d -∗ (K (F := F)).tcSt EH d 0)) := by
  unfold SparseCore.Cfg.tcSt
  iintro ⟨HO, H⟩
  isplitl [HO]; · iexact HO
  iintro HO
  isplitl [HO]; · iexact HO
  iexact H

/-! ## The arrays' contents along the program -/

abbrev rx : DevRef τ sig := Proc.devRef .tc (main_arg0 : Ref sig .tc)
abbrev rw₀ : DevRef τ sig := Proc.devRef .tc (main_arg1 : Ref sig .tc)
abbrev r0 : DevRef τ sig := Proc.devRef .tc (main_v0 : Ref sig .tc)
abbrev r1 : DevRef τ sig := Proc.devRef .tc (main_v1 : Ref sig .tc)
abbrev r2 : DevRef τ sig := Proc.devRef .tc (main_v2 : Ref sig .tc)
abbrev r3 : DevRef τ sig := Proc.devRef .tc (main_v3 : Ref sig .tc)
abbrev r4 : DevRef τ sig := Proc.devRef .tc (main_v4 : Ref sig .tc)

abbrev opA : HloOp τ sig (Elt F) := StableHlo.reshape main_arg1 main_v0 (rfl : (.f32 : EltTy) = .f32) shapeCasts_S8192x4_S4x1024x2x4
abbrev opB : HloOp τ sig (Elt F) := StableHlo.unary main_v0 main_v1
  ((transpose S2x4x1024x4 [2, 0, 1, 3] · transposes_S4x1024x2x4_S2x4x1024x4_2_0_1_3) : (⟨S4x1024x2x4, .f32⟩ : BufTy).Contents (Elt F) → (⟨S2x4x1024x4, .f32⟩ : BufTy).Contents (Elt F))
abbrev opC : HloOp τ sig (Elt F) := StableHlo.reshape main_v2 main_v3 (rfl : (.f32 : EltTy) = .f32) shapeCasts_S4096x2x4x16_S524288

abbrev S7 : Finset (DevRef τ sig) := {rx, rw₀, r0, r1, r2, r3, r4}

variable (m : (ℓ : Loc nD τ sig) → Buf (Elt F) ℓ) (ρ : Dev nD → PrngReg)

def V0 (d : Dev nD) : Valuation τ sig (Elt F) := fun b => m (d, b)
def V1 (d : Dev nD) : Valuation τ sig (Elt F) := opA.result (V0 m d)
def V2 (d : Dev nD) : Valuation τ sig (Elt F) := opB.result (V1 m d)

/-- What the region finds. -/
def Bm : TcAt F where
  x d := m (xLoc d)
  w d := V2 m d r1
  g d := m (kLoc d)

def V3 (d : Dev nD) : Valuation τ sig (Elt F) := Function.update (V2 m d) r2 (coefArr (Bm m) d)
def V4 (d : Dev nD) : Valuation τ sig (Elt F) := opC.result (V3 m d)

/-- What the call finds. -/
def Am : At F where
  x d := m (xLoc d)
  v3 d := V4 m d r3
  f0 d := m (oLoc d)

omit [FloatOps F] in
theorem held_S7 (d : Dev nD) (W : Valuation τ sig (Elt F)) :
    (held (SparseCore.T d) S7 W : sProp 𝕄) = iprop((xLoc d ↦{fullShare} W rx) ∗ ((d, rw₀) ↦{fullShare} W rw₀) ∗ ((d, r0) ↦{fullShare} W r0)
      ∗ (wLoc d ↦{fullShare} W r1) ∗ (kLoc d ↦{fullShare} W r2) ∗ (cLoc d ↦{fullShare} W r3) ∗ (oLoc d ↦{fullShare} W r4)) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (SparseCore.T d) S7 (V0 m d) := by
  rw [held_S7]
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

theorem opA_sub : (opA (F := F)).bufs ⊆ S7 := show ({rw₀, r0} : Finset (DevRef τ sig)) ⊆ S7 by decide
theorem opB_sub : (opB (F := F)).bufs ⊆ S7 := show ({r0, r1} : Finset (DevRef τ sig)) ⊆ S7 by decide
theorem opC_sub : (opC (F := F)).bufs ⊆ S7 := show ({r2, r3} : Finset (DevRef τ sig)) ⊆ S7 by decide

theorem V2_of (d : Dev nD) (b : DevRef τ sig) (h : b ∉ ({r0} : Finset (DevRef τ sig))) (h' : b ∉ ({r1} : Finset (DevRef τ sig))) : V2 m d b = V0 m d b :=
  ((opB (F := F)).result_of_not_mem (V1 m d) (b := b) h').trans ((opA (F := F)).result_of_not_mem (V0 m d) (b := b) h)
theorem V4_of (d : Dev nD) (b : DevRef τ sig) (h : b ≠ r2) (h' : b ∉ ({r3} : Finset (DevRef τ sig))) : V4 m d b = V2 m d b :=
  ((opC (F := F)).result_of_not_mem (V3 m d) (b := b) h').trans (Function.update_of_ne h _ _)

theorem held_V2 (d : Dev nD) : (held (SparseCore.T d) S7 (opB.result (opA.result (V0 m d))) : sProp 𝕄)
    = iprop((xLoc d ↦{fullShare} m (xLoc d)) ∗ ((d, rw₀) ↦{fullShare} V2 m d rw₀) ∗ ((d, r0) ↦{fullShare} V2 m d r0)
      ∗ (wLoc d ↦{fullShare} V2 m d r1) ∗ (kLoc d ↦{fullShare} m (kLoc d)) ∗ (cLoc d ↦{fullShare} V2 m d r3) ∗ (oLoc d ↦{fullShare} V2 m d r4)) := by
  rw [show opB.result (opA.result (V0 m d)) = V2 m d from rfl, held_S7, V2_of m d rx (by decide) (by decide), V2_of m d r2 (by decide) (by decide)]
  rfl

theorem held_V3 (d : Dev nD) : (held (SparseCore.T d) S7 (V3 m d) : sProp 𝕄)
    = iprop((xLoc d ↦{fullShare} m (xLoc d)) ∗ ((d, rw₀) ↦{fullShare} V2 m d rw₀) ∗ ((d, r0) ↦{fullShare} V2 m d r0)
      ∗ (wLoc d ↦{fullShare} V2 m d r1) ∗ (kLoc d ↦{fullShare} coefArr (Bm m) d) ∗ (cLoc d ↦{fullShare} V2 m d r3) ∗ (oLoc d ↦{fullShare} V2 m d r4)) := by
  have h (b : DevRef τ sig) (hb : b ≠ r2) : V3 m d b = V2 m d b := Function.update_of_ne hb _ _
  rw [held_S7, h rx (by decide), h rw₀ (by decide), h r0 (by decide), h r1 (by decide), h r3 (by decide), h r4 (by decide),
    show V3 m d r2 = coefArr (Bm m) d from Function.update_self _ _ _, V2_of m d rx (by decide) (by decide)]
  rfl

theorem held_V4 (d : Dev nD) : (held (SparseCore.T d) S7 (opC.result (V3 m d)) : sProp 𝕄)
    = iprop((xLoc d ↦{fullShare} m (xLoc d)) ∗ ((d, rw₀) ↦{fullShare} m (d, rw₀)) ∗ ((d, r0) ↦{fullShare} V4 m d r0)
      ∗ (wLoc d ↦{fullShare} V4 m d r1) ∗ (kLoc d ↦{fullShare} V4 m d r2) ∗ (cLoc d ↦{fullShare} V4 m d r3) ∗ (oLoc d ↦{fullShare} m (oLoc d))) := by
  rw [show opC.result (V3 m d) = V4 m d from rfl, held_S7, V4_of m d rx (by decide) (by decide), V4_of m d rw₀ (by decide) (by decide), V4_of m d r4 (by decide) (by decide),
    V2_of m d rx (by decide) (by decide), V2_of m d rw₀ (by decide) (by decide), V2_of m d r4 (by decide) (by decide)]
  rfl

/-! ## @main -/

/-- What @main leaves: the arguments at their launch contents, the result at what the tasks compute. -/
abbrev FIN (d : Dev nD) : sProp 𝕄 :=
  iprop((xLoc d ↦{fullShare} m (xLoc d)) ∗ ((d, rw₀) ↦{fullShare} m (d, rw₀)) ∗ (oLoc d ↦{fullShare} tgt (m (xLoc d)) (V4 m d r3)))

theorem hmain [∀ e, Nonempty (Elt F e)] (κ : GSem nD τ sig → ℕ) (d : Dev nD) :
    iprop((K (F := F)).ctx EH (P (Am m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HG⟩
  iapply (wp_hlo_within 𝒱 (SparseCore.T d) none Set.univ (op := opA) (S := S7) opA_sub (V := V0 m d)) $$ [Hb Hheld]
  · isplitl [Hb] <;> iassumption
  iintro ⟨Hb, Hheld⟩
  rw [wp_ret]; imodintro
  iapply (wp_hlo_within 𝒱 (SparseCore.T d) none Set.univ (op := opB) (S := S7) opB_sub (V := opA.result (V0 m d))) $$ [Hb Hheld]
  · isplitl [Hb] <;> iassumption
  iintro ⟨Hb, Hheld⟩
  rw [wp_ret]; imodintro
  ihave Hh := (Entails.of_eq (held_V2 m d)) $$ Hheld
  icases Hh with ⟨Hx, Hw0, H0, H1, H2, H3, H4⟩
  ihave Hs := (tcSt_take (F := F) d) $$ Hst
  icases Hs with ⟨HO, Hst⟩
  iapply (region_step (Bm m) d)
  isplitr; · iapply (SparseCore.Cfg.ctx_levAts κ); iexact Hctx
  isplitl [Hb]; · iexact Hb
  isplitl [Hx H1 H2 HO]
  · isplitl [Hx]; · iexact Hx
    isplitl [H1]; · iexact H1
    isplitl [H2]; · iexact H2
    iexact HO
  isplitl [HG]; · iexact HG
  iintro ⟨Hb, Hx, H1, H2, HO⟩
  ihave Hst := Hst $$ HO
  iapply (wp_hlo_within 𝒱 (SparseCore.T d) none Set.univ (op := opC) (S := S7) opC_sub (V := V3 m d)) $$ [Hb Hx Hw0 H0 H1 H2 H3 H4]
  · isplitl [Hb]; · iexact Hb
    rw [held_V3]
    isplitl [Hx]; · iexact Hx
    isplitl [Hw0]; · iexact Hw0
    isplitl [H0]; · iexact H0
    isplitl [H1]; · iexact H1
    isplitl [H2]; · iexact H2
    isplitl [H3]; · iexact H3
    iexact H4
  iintro ⟨Hb, Hheld⟩
  rw [wp_ret]; imodintro
  ihave Hh := (Entails.of_eq (held_V4 m d)) $$ Hheld
  icases Hh with ⟨Hx, Hw0, -, -, -, H3, H4⟩
  iapply ((K (F := F)).wp_run (D (F := F)) 𝒱 (EH := EH) (P := P (Am m)) κ d 0) $$ [Hst Hx H3 H4 Hw0 Hb Hts]
  isplitr; · iexact Hctx
  isplitl [Hst]; · iexact Hst
  isplitl [Hx H3 H4]
  · rw [st_eq]
    isplitl [Hx]; · iexact Hx
    isplitl [H3]; · iexact H3
    iexact H4
  iintro ⟨Hst, Hdn⟩
  ihave Hdn := (Entails.of_eq (dn_eq (Am m) d)) $$ Hdn
  icases Hdn with ⟨Hx, -, Ho⟩
  imodintro
  isplitl [Hst]; · iexact Hst
  isplitr [Hb Hts]
  · isplitl [Hx]; · iexact Hx
    isplitl [Hw0]; · iexact Hw0
    iexact Ho
  isplitl [Hb] <;> iassumption

def fq (d : Dev nD) (s' : Phys nD τ sig (Elt F)) : Prop :=
  s'.mem.mem (xLoc d) = m (xLoc d) ∧ s'.mem.mem (d, rw₀) = m (d, rw₀) ∧ s'.mem.mem (oLoc d) = tgt (m (xLoc d)) (V4 m d r3)

theorem hfin (d : Dev nD) (s' : Phys nD τ sig (Elt F)) : iprop(FIN m d ∗ SI s') ⊢ (⌜fq m d s'⌝ : sProp 𝕄) := by
  have key (ℓ : Loc nD τ sig) (f : Buf (Elt F) ℓ) : iprop((ℓ ↦{fullShare} f) ∗ SI s') ⊢ (⌜s'.mem.mem ℓ = f⌝ : sProp 𝕄) := by
    iintro ⟨Hx, HSI⟩
    ihave H := (SI_pointsTo_agree (st := s') (ℓ := ℓ) (I := Finset.univ) (q := fullShare) (f := f)) $$ [HSI Hx]
    · isplitl [HSI] <;> iassumption
    icases H with %hx
    ipureintro; exact funext fun i => hx i (Finset.mem_univ i)
  iintro ⟨⟨Hx, Hw, Ho⟩, HSI⟩
  ihave %hx := (key (xLoc d) (m (xLoc d))) $$ [Hx HSI]
  · isplitl [Hx] <;> iassumption
  ihave %hw := (key (d, rw₀) (m (d, rw₀))) $$ [Hw HSI]
  · isplitl [Hw] <;> iassumption
  ihave %ho := (key (oLoc d) _) $$ [Ho HSI]
  · isplitl [Ho] <;> iassumption
  ipureintro; exact ⟨hx, hw, ho⟩

/-! ## The launch -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

omit [FloatOps F] in
theorem nothing {I : Type} (s : Finset I) : (bigSep s fun _ => iprop(emp)) = (iprop(emp) : sProp 𝕄) := bigSep_emp_const s
omit [FloatOps F] in
theorem one_pipeline (Φ : Fin 1 → sProp 𝕄) : bigSep Finset.univ Φ = Φ 0 := by
  rw [show (Finset.univ : Finset (Fin 1)) = {0} by decide, bigSep_singleton]

theorem hu₀ (A : At F) : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P A).x q thr) := by
  unfold u₀
  iintro Hu
  ihave H := (ownU_pair _ _) $$ Hu
  icases H with ⟨HH, HR⟩
  ihave HR := (own_pair_emb embR _ _) $$ HR
  icases HR with ⟨HP, -⟩
  ihave HP := (Pipeline.fund_ghost (Pipeline.pin (pcfgs (F := F)) adm) EP cellOf_inj) $$ HP
  imod HP
  icases HP with ⟨Hg, Ht⟩
  imodintro
  isplitl [HH]; · iexact HH
  isplitl [Hg Ht]
  · rw [BI.bigSep_sep']
    isplitl [Hg]
    · ihave Hg := (Entails.of_eq (bigSep_congr fun c _ => one_pipeline _)) $$ Hg
      iexact Hg
    · ihave Ht := (Entails.of_eq (bigSep_congr fun c _ => one_pipeline _)) $$ Ht
      iexact Ht
  unfold P; dsimp only
  rw [show (bigSep Finset.univ fun _ : Thread nD τ => bigSep Finset.univ fun _ : Fin 1 => (iprop(emp) : sProp 𝕄)) = iprop(emp) from by
    rw [bigSep_congr fun _ _ => nothing _, nothing]]
  iempintro

def QC : PUnit × MemSt nD τ sig (Elt F) → Prop := fun r =>
  (∀ c : Dev nD, r.2.mem (xLoc c) = m (xLoc c) ∧ r.2.mem (c, rw₀) = m (c, rw₀) ∧ r.2.mem (oLoc c) = tgt (m (xLoc c)) (V4 m c r3)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Am m)) (A := ∅) facts v₀
    (fun q hq => match q with | 0 => nomatch hq)
    (fun q _ => match q with | 0 => tileObl (Am m))
    (fun q _ => match q with | 0 => SparseCore.Cfg.VecSplit.of_plain (vecSplit (Am m)))
    m ρ main (fun d => G d) (FIN m) (u₀ (F := F)) (sep_elim_left.trans (hu₀ (Am m))) (hmain m ρ) (fq m) (hfin m) (QC m) (fun _ h hz => ⟨h, hz⟩)

end Cert.Proof.Sc

end
-- ==== Proof.Frames.lean ====
/-
  The kernel's frames: the program as printed, and its reading at the ideal instance, both the one run.
-/
module

public import proofs.«01_k».proof.Defs
public import proofs.«01_k».proof.Proof.Gen.Kernel
public import proofs.«01_k».proof.Proof.ScRun
public import proofs.«01_k».proof.Proof.Gen.ReferenceIdeal
public import proofs.«01_k».proof.Proof.Gen.ReferenceIdeal.Run

@[expose] public section

noncomputable section

namespace Cert.Proof.Sc

open Idealize.ShloMosaic Idealize.SL.Sem

/-- The program leaves its arguments as they were, and every semaphore at zero. -/
theorem run_frame {F : FTy → Type} [FloatOps F] [∀ e, Nonempty (Elt F e)] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (run_main (F := F) m ρ)

theorem frame_ideal : Cert.quiescent_KernelIdeal := fun m ρ _ => run_frame (F := Ideal) m ρ

/-- The two readings' body tables are one, by processor and label. -/
theorem bodies_eq {F : FTy → Type} [FloatOps F] : @Cert.Kernel.defs₀ F _ _ = @Cert.KernelIdeal.defs₀ F _ _ := by
  funext p ℓ a
  match p, ℓ, a with
  | .tc, 0, (t, s) => rfl
  | .tc, 1, _ => rfl
  | .scVector c s, 1, _ => rfl
  | .scVector c s, 0, _ => rfl
  | .scScalar c, 0, _ => rfl
  | .scScalar c, 1, _ => rfl

theorem defs_eq {F : FTy → Type} [FloatOps F] : @Cert.Kernel.defs F _ _ = @Cert.KernelIdeal.defs F _ _ :=
  congrArg (fun b => (Cert.KernelIdeal.sc (F := F)).defs (Pipeline.defs Cert.KernelIdeal.pcfgs b)) bodies_eq

theorem frame_kernel : Cert.quiescent_Kernel := fun m ρ _ => by
  rw [defs_eq]
  exact run_frame (F := Bits) m ρ

/-- The reference's run at its arguments; it declares no semaphore. -/
theorem frame_reference : Cert.quiescent_ReferenceIdeal := fun m ρ _ =>
  (θ_run Cert.ReferenceIdeal.defs _ _).mono (fun r h => ⟨fun c => ⟨(h c).2.1, (h c).2.2⟩, Idealize.ShloMosaic.sem_eq_zero_of_no_sems (by decide) r.2⟩)
    (Cert.ReferenceIdeal.Value.run (F := Ideal) m ρ)

end Cert.Proof.Sc

end
-- ==== Proof.ValPick.lean ====
/-
  Choosing two of four lines by a mask, in words and over the extended reals: the places a stable sort of the mask puts
  first are those the running counts of the mask give; the median of four as a network of minima and maxima and as the
  middle of a sort; and the weighted sum of four that picks two.
-/
module

public import Idealize.ShloMosaic.Lib.Pointwise
public import Idealize.ShloMosaic.Lib.SortFacts

@[expose] public section

noncomputable section

namespace Cert.Proof.Sc

open Idealize.ShloMosaic

/-! ## The places -/

/-- The order of a stable sort of four positions by one word each. -/
abbrev wordBefore (key : Fin 4 → BitVec 32) (k k' : Fin 4) : Bool := IntOp.cmpi .slt (key k) (key k') == 1#1

/-- A mask's bit as a word, and the opposite bit's. -/
abbrev bitW (m : Fin 4 → Bool) (h : Fin 4) : BitVec 32 := BitVec.setWidth 32 (BitVec.ofBool (m h))
abbrev notW (m : Fin 4 → Bool) (h : Fin 4) : BitVec 32 := BitVec.setWidth 32 (BitVec.ofBool (!m h))

/-- The `s`-th line in the order of the lines the mask holds first, -/
def posA (m : Fin 4 → Bool) (s : Fin 2) : Fin 4 := sortedFrom (wordBefore (notW m)) (s.castLE (by decide))
/-- and in the order of the others first. -/
def posD (m : Fin 4 → Bool) (s : Fin 2) : Fin 4 := sortedFrom (wordBefore (bitW m)) (s.castLE (by decide))

/-- How many of the lines up to one the mask holds, and how many not, as the kernel counts. -/
def cntT (m : Fin 4 → Bool) : Fin 4 → BitVec 32
  | 0 => IntOp.addi 0#32 (bitW m 0)
  | 1 => IntOp.addi (cntT m 0) (bitW m 1)
  | 2 => IntOp.addi (cntT m 1) (bitW m 2)
  | 3 => IntOp.addi (cntT m 2) (bitW m 3)
def cntF (m : Fin 4 → Bool) : Fin 4 → BitVec 32
  | 0 => IntOp.addi 0#32 (IntOp.subi 1#32 (bitW m 0))
  | 1 => IntOp.addi (cntF m 0) (IntOp.subi 1#32 (bitW m 1))
  | 2 => IntOp.addi (cntF m 1) (IntOp.subi 1#32 (bitW m 2))
  | 3 => IntOp.addi (cntF m 2) (IntOp.subi 1#32 (bitW m 3))

/-- A line's place in each order, as the kernel computes it. -/
def placeA (m : Fin 4 → Bool) (h : Fin 4) : BitVec 32 :=
  if m h then IntOp.subi (cntT m h) 1#32 else IntOp.subi (IntOp.addi (cntT m 3) (cntF m h)) 1#32
def placeD (m : Fin 4 → Bool) (h : Fin 4) : BitVec 32 :=
  if m h then IntOp.subi (IntOp.addi (cntF m 3) (cntT m h)) 1#32 else IntOp.subi (cntF m h) 1#32

theorem eq_four (m : Fin 4 → Bool) : m = ![m 0, m 1, m 2, m 3] := by funext i; fin_cases i <;> rfl

theorem places : ∀ a b c d : Bool, ∀ h : Fin 4, ∀ s : Fin 2,
    (placeA ![a, b, c, d] h = BitVec.ofNat 32 s.val ↔ posA ![a, b, c, d] s = h)
      ∧ (placeD ![a, b, c, d] h = BitVec.ofNat 32 s.val ↔ posD ![a, b, c, d] s = h) := by decide +kernel

theorem placeA_iff (m : Fin 4 → Bool) (h : Fin 4) (s : Fin 2) : placeA m h = BitVec.ofNat 32 s.val ↔ posA m s = h := by
  rw [eq_four m]; exact (places _ _ _ _ h s).1
theorem placeD_iff (m : Fin 4 → Bool) (h : Fin 4) (s : Fin 2) : placeD m h = BitVec.ofNat 32 s.val ↔ posD m s = h := by
  rw [eq_four m]; exact (places _ _ _ _ h s).2

/-! ## The median -/

section Median

variable {α : Type} [LinearOrder α]

/-- The middle two of four, by a network. -/
def midLo (v : Fin 4 → α) : α := min (min (max (v 0) (v 1)) (max (v 2) (v 3))) (max (min (v 0) (v 1)) (min (v 2) (v 3)))
def midHi (v : Fin 4 → α) : α := max (min (max (v 0) (v 1)) (max (v 2) (v 3))) (max (min (v 0) (v 1)) (min (v 2) (v 3)))

/-- The middle two of four, by a sort. -/
theorem sorted_mid (v : Fin 4 → α) :
    v (sortedFrom (fun k k' => decide (v k < v k')) 1) = midLo v ∧ v (sortedFrom (fun k k' => decide (v k < v k')) 2) = midHi v := by
  have get (k : Fin 4) : sortedFrom (fun k k' => decide (v k < v k')) k
      = (stableSort (fun k k' => decide (v k < v k')) [0, 1, 2, 3])[k.val]'(by rw [length_stableSort]; exact k.isLt) := rfl
  rw [get, get]
  unfold midLo midHi
  rcases lt_or_ge (v 1) (v 0) with h01 | h01 <;> rcases lt_or_ge (v 2) (v 0) with h02 | h02 <;>
    rcases lt_or_ge (v 3) (v 0) with h03 | h03 <;> rcases lt_or_ge (v 2) (v 1) with h12 | h12 <;>
    rcases lt_or_ge (v 3) (v 1) with h13 | h13 <;> rcases lt_or_ge (v 3) (v 2) with h23 | h23 <;>
    first
    | (exfalso; order)
    | (constructor <;>
        simp [stableSort, insertBefore, h01, h02, h03, h12, h13, h23, le_of_lt, not_lt_of_ge, min_eq_left, min_eq_right, max_eq_left, max_eq_right])

end Median

/-! ## The weighted sum -/

/-- A line's weight: one if it is chosen first, `ε` if it is chosen second, both if both. -/
def weight (ε : EReal) (a d : Fin 4) (h : Fin 4) : EReal := (if a = h then 1 else 0) + (if d = h then 1 else 0) * ε

theorem weighted (ε : EReal) (hε : 0 ≤ ε) (x : Fin 4 → EReal) (a d : Fin 4) :
    weight ε a d 0 * x 0 + weight ε a d 1 * x 1 + weight ε a d 2 * x 2 + weight ε a d 3 * x 3 = x a + x d * ε := by
  have hd : ∀ y : EReal, (1 + ε) * y = y + y * ε := fun y => by
    rw [EReal.right_distrib_of_nonneg zero_le_one hε, one_mul, mul_comm]
  fin_cases a <;> fin_cases d <;> simp [weight, hd, mul_comm ε] <;> exact add_comm _ _

/-! ## The words' values -/

/-- A comparison's bit as a float. -/
theorem sitofp_bit (p : Bool) : (FloatOps.sitofp .f32 (BitVec.setWidth 32 (BitVec.ofBool p)) : Ideal .f32) = if p then 1 else 0 := by
  cases p
  · show (((BitVec.setWidth 32 (BitVec.ofBool false)).toInt : ℝ) : EReal) = 0
    rw [show (BitVec.setWidth 32 (BitVec.ofBool false)).toInt = 0 by decide]; simp
  · show (((BitVec.setWidth 32 (BitVec.ofBool true)).toInt : ℝ) : EReal) = 1
    rw [show (BitVec.setWidth 32 (BitVec.ofBool true)).toInt = 1 by decide]; simp

theorem eps_nonneg : (0 : EReal) ≤ Ideal.ofBits .f32 0x38D1B717#32 := by
  simp [Ideal.ofBits, Ideal.ieee, -EReal.coe_mul]

end Cert.Proof.Sc

end
-- ==== Proof.ValCoef.lean ====
/-
  What the coefficient kernel leaves of a block, at an index: the weight of one line in one of the two chosen places, by
  the mask of the lines above the row's median.
-/
module

public import proofs.«01_k».proof.Proof.TcBody
public import proofs.«01_k».proof.Proof.ValPick

@[expose] public section

noncomputable section

namespace Cert.Proof.Sc

open Cert.KernelIdeal Cert.KernelIdeal.Gen
open Idealize.ShloMosaic

/-- The share of the second choice. -/
abbrev eps : EReal := Ideal.ofBits .f32 0x38D1B717#32

/-- The median of a row of four, and which of them are above it. -/
def medOf (v : Fin 4 → EReal) : EReal := (midLo v + midHi v) * Ideal.ofBits .f32 0x3F000000#32
def maskOf (v : Fin 4 → EReal) (h : Fin 4) : Bool := decide (medOf v < v h)

/-- The weight of line `h` in place `s`, by the row's four values. -/
def coefOf (v : Fin 4 → EReal) (s : Fin 2) (h : Fin 4) : EReal := weight eps (posA (maskOf v) s) (posD (maskOf v) s) h

variable (X : S512x2x4x1024.Idx → Elt Ideal .f32) (W : S2x4x1024x4.Idx → Elt Ideal .f32)

/-- A row's four values, as the kernel computes them. -/
def lineB (r : Fin 512) (u : Fin 4) : EReal := k0_pay8 (acc7 X W) (x8 X) (w8 W) (ix2 r u)

theorem lineB_eq (r : Fin 512) (u : Fin 4) :
    lineB X W r u = Ideal.logistic (∑ c : Fin 2, ∑ h : Fin 4, ∑ w : Fin 1024, X (ix4 r c h w) * W (ix4 c h w u)) := by
  unfold lineB
  pointwise [k0_pay8, acc7, x8, w8, k0_pay2, k0_pay3, k0_pay4, k0_pay5, k0_pay6, k0_pay7, xPart, wPart, Fin.sum_univ_two, Fin.sum_univ_four, add_assoc]

theorem med_apply (r : Fin 512) : k0_pay13 (acc7 X W) (x8 X) (w8 W) (ix2 r 0) = medOf (lineB X W r) := by
  pointwise [k0_pay13, k0_pay9, k0_pay10, k0_pay11, k0_pay12]
  rfl

theorem mask_apply (r : Fin 512) :
    k0_pay14 (acc7 X W) (x8 X) (w8 W) (ix2 r 0) = BitVec.ofBool (maskOf (lineB X W r) 0)
      ∧ k0_pay15 (acc7 X W) (x8 X) (w8 W) (ix2 r 0) = BitVec.ofBool (maskOf (lineB X W r) 1)
      ∧ k0_pay16 (acc7 X W) (x8 X) (w8 W) (ix2 r 0) = BitVec.ofBool (maskOf (lineB X W r) 2)
      ∧ k0_pay17 (acc7 X W) (x8 X) (w8 W) (ix2 r 0) = BitVec.ofBool (maskOf (lineB X W r) 3) := by
  pointwise [k0_pay14, k0_pay15, k0_pay16, k0_pay17, k0_pay9, k0_pay10, k0_pay11, k0_pay12, med_apply]
  exact ⟨rfl, rfl, rfl, rfl⟩

theorem places_apply (r : Fin 512) (h : Fin 4) :
    rankA X W h (ix2 r 0) = placeA (maskOf (lineB X W r)) h ∧ rankD X W h (ix2 r 0) = placeD (maskOf (lineB X W r)) h := by
  obtain ⟨h0, h1, h2, h3⟩ := mask_apply X W r
  fin_cases h <;>
  pointwise [rankA, rankD, k0_pay30, k0_pay31, k0_pay32, k0_pay33, k0_pay34, k0_pay35, k0_pay36, k0_pay37, k0_pay22, k0_pay23, k0_pay24, k0_pay25, k0_pay26, k0_pay27, k0_pay28, k0_pay29,
    k0_pay18, k0_pay19, k0_pay20, k0_pay21, h0, h1, h2, h3, placeA, placeD, cntT, cntF]

/-- What a store of one line's weights in one place leaves over earlier ones, at an index. -/
theorem canon_line (a : Fin 2) (b : Fin 4) (o : Fin 4 → ℕ) (ho : o = ![0, a.val, b.val, 0]) (hin : ∀ d, o d + S512x1x1x16.size d ≤ S512x2x4x16.size d)
    (v : FVec Ideal S512x1x1x16 .f32) (L : List (View.Piece (Elt Ideal) S512x2x4x16 .f32)) (r : Fin 512) (s : Fin 2) (h : Fin 4) (l : Fin 16) :
    View.canon (⟨Rect.unit (s := S512x2x4x16) o S512x1x1x16.size hin, v⟩ :: L) (ix4 r s h l)
      = if s = a ∧ h = b then v (ix4 r 0 0 l) else View.canon L (ix4 r s h l) := by
  subst ho
  have emb : (Rect.unit (s := S512x2x4x16) ![0, a.val, b.val, 0] S512x1x1x16.size hin).emb (ix4 r 0 0 l) = ix4 r a b l := by
    funext d
    apply Fin.ext
    rw [Rect.emb_apply]
    match d with
    | ⟨0, _⟩ => show 0 + 1 * r.val = r.val; omega
    | ⟨1, _⟩ => show a.val + 1 * 0 = a.val; omega
    | ⟨2, _⟩ => show b.val + 1 * 0 = b.val; omega
    | ⟨3, _⟩ => show 0 + 1 * l.val = l.val; omega
  by_cases hs : s = a ∧ h = b
  · obtain ⟨rfl, rfl⟩ := hs
    rw [if_pos ⟨rfl, rfl⟩, ← emb, View.canon_cons_emb]
  · rw [if_neg hs, View.canon_cons_of_not_mem]
    intro hm
    have hm := (Rect.mem_set_unit (s := S512x2x4x16) (off := ![0, a.val, b.val, 0]) (size := S512x1x1x16.size) (inb := hin)).mp hm
    have h1 : a.val ≤ s.val ∧ s.val < a.val + 1 := hm 1
    have h2 : b.val ≤ h.val ∧ h.val < b.val + 1 := hm 2
    exact hs ⟨Fin.ext (by omega), Fin.ext (by omega)⟩

/-- The weight the kernel computes from a line's two places, `n` being the output line's number. -/
theorem weight_of (m : Fin 4 → Bool) (s : Fin 2) (h : Fin 4) (n : BitVec 32) (hn : n = BitVec.ofNat 32 s.val) :
    (FloatOps.sitofp .f32 (BitVec.setWidth 32 (IntOp.cmpi .eq (placeA m h) n)) : Ideal .f32)
        + (FloatOps.sitofp .f32 (BitVec.setWidth 32 (IntOp.cmpi .eq (placeD m h) n)) : Ideal .f32) * Ideal.ofBits .f32 953267991#32
      = weight eps (posA m s) (posD m s) h := by
  subst hn
  have bit (a b : BitVec 32) : IntOp.cmpi .eq a b = BitVec.ofBool (decide (a = b)) := by
    show BitVec.ofBool (a == b) = _
    congr 1
  rw [bit, bit, sitofp_bit, sitofp_bit]
  simp only [placeA_iff, placeD_iff, decide_eq_true_eq]
  rfl

theorem coefBlk_apply (r : Fin 512) (s : Fin 2) (h : Fin 4) (l : Fin 16) :
    coefBlk X W (ix4 r s h l) = coefOf (lineB X W r) s h := by
  unfold coefBlk coefPieces
  rw [canon_line 1 3 ![0, 1, 3, 0] rfl, canon_line 1 2 ![0, 1, 2, 0] rfl, canon_line 1 1 ![0, 1, 1, 0] rfl, canon_line 1 0 ![0, 1, 0, 0] rfl,
    canon_line 0 3 ![0, 0, 3, 0] rfl, canon_line 0 2 ![0, 0, 2, 0] rfl, canon_line 0 1 ![0, 0, 1, 0] rfl, canon_line 0 0 ![0, 0, 0, 0] rfl]
  have hA (h : Fin 4) := (places_apply X W r h).1
  have hD (h : Fin 4) := (places_apply X W r h).2
  pointwise [k0_pay1, k0_pay48, k0_pay47, k0_pay46, k0_pay45, k0_pay44, k0_pay43, k0_pay42, k0_pay41, k0_pay40, k0_pay39, k0_pay38, hA, hD]
  match s, h with
  | 0, 0 | 0, 1 | 0, 2 | 0, 3 | 1, 0 | 1, 1 | 1, 2 | 1, 3 => exact weight_of _ _ _ _ rfl

end Cert.Proof.Sc

end
-- ==== Proof.ValArr.lean ====
/-
  The kernel's arrays at an index: the coefficients' array after the region, and the host's packings around it.
-/
module

public import proofs.«01_k».proof.Proof.ScRun
public import proofs.«01_k».proof.Proof.ValCoef
public import Idealize.ShloMosaic.Lib.Pipeline.ValueKit

@[expose] public section

noncomputable section

namespace Cert.Proof.Sc

open Cert.KernelIdeal Cert.KernelIdeal.Gen
open Idealize.ShloMosaic
open Idealize.ShloMosaic.Pipeline (Dat Cfg Window)

/-- Row `r` of block `t`. -/
abbrev rowAt (t : Fin cfg0.N) (r : Fin 512) : Fin 4096 := ⟨512 * t.val + r.val, by have := t.isLt.trans_eq N_0; omega⟩

/-- A batch's row of line values, before the squashing: the features against the packed weights. -/
def lineP (x : S4096x2x4x1024.Idx → Elt Ideal .f32) (w : S2x4x1024x4.Idx → Elt Ideal .f32) (b : Fin 4096) (u : Fin 4) : EReal :=
  Ideal.logistic (∑ c : Fin 2, ∑ h : Fin 4, ∑ k : Fin 1024, x (ix4 b c h k) * w (ix4 c h k u))

variable (B : TcAt Ideal) (d : Dev nD)

theorem index_x (t : Fin cfg0.N) : win0_0.index t = ![t.val, 0, 0, 0] := by revert t; decide +kernel
theorem index_w (t : Fin cfg0.N) : win0_1.index t = ![0, 0, 0, 0] := by revert t; decide +kernel
theorem index_k (t : Fin cfg0.N) : win0_2.index t = ![t.val, 0, 0, 0] := by revert t; decide +kernel

theorem xBlk_apply (t : Fin cfg0.N) (r : Fin 512) (c : Fin 2) (h : Fin 4) (k : Fin 1024) :
    xBlk B d t (ix4 r c h k) = B.x d (ix4 (rowAt t r) c h k) := by
  show B.x d ((win0_0.blk t).view.emb (ix4 r c h k)) = _
  blk_ext [index_x t]
theorem wBlk_apply (t : Fin cfg0.N) (c : Fin 2) (h : Fin 4) (k : Fin 1024) (u : Fin 4) :
    wBlk B d t (ix4 c h k u) = B.w d (ix4 c h k u) := by
  show B.w d ((win0_1.blk t).view.emb (ix4 c h k u)) = _
  blk_ext [index_w t]

theorem lineB_blk (t : Fin cfg0.N) (r : Fin 512) :
    lineB (xBlk B d t) (wBlk B d t) r = lineP (B.x d) (B.w d) (rowAt t r) := by
  funext u
  rw [lineB_eq]
  unfold lineP
  simp only [xBlk_apply, wBlk_apply]

theorem kBlk_emb (t : Fin cfg0.N) (r : Fin 512) (s : Fin 2) (h : Fin 4) (l : Fin 16) :
    (win0_2.blk t).view.emb (ix4 r s h l) = ix4 (rowAt t r) s h l := by
  blk_ext [index_k t]

theorem coefArr_eq : coefArr B d = fun j : S4096x2x4x16.Idx => coefOf (lineP (B.x d) (B.w d) (j 0)) (j 1) (j 2) := by
  refine (tdat B d).arrAt_eq_of_covers 2 _ (by decide +kernel) fun t hf y => ?_
  blk_simp
  obtain ⟨r, s, h, l, rfl⟩ : ∃ (r : Fin 512) (s : Fin 2) (h : Fin 4) (l : Fin 16), y = ix4 r s h l := ⟨y 0, y 1, y 2, y 3, eq_ix4 y⟩
  rw [kBlk_emb]
  show coefBlk (xBlk B d t) (wBlk B d t) (ix4 r s h l) = _
  rw [coefBlk_apply, lineB_blk]
  rfl

/-- The weights as the host packs them. -/
theorem pack_apply (W : FVec Ideal S8192x4 .f32) (c : Fin 2) (h : Fin 4) (k : Fin 1024) (u : Fin 4) :
    (transpose S2x4x1024x4 [2, 0, 1, 3] (shapeCast S4x1024x2x4 W shapeCasts_S8192x4_S4x1024x2x4)
      transposes_S4x1024x2x4_S2x4x1024x4_2_0_1_3) (ix4 c h k u) = W (ix2 ⟨h.val * 2048 + k.val * 2 + c.val, by omega⟩ u) := by
  pointwise

variable (m : (ℓ : Loc nD τ sig) → Buf (Elt Ideal) ℓ)

theorem packed_apply (c : Fin 2) (h : Fin 4) (k : Fin 1024) (u : Fin 4) :
    (V2 m d r1 : S2x4x1024x4.Idx → Elt Ideal .f32) (ix4 c h k u)
      = (m (d, rw₀) : S8192x4.Idx → Elt Ideal .f32) (ix2 ⟨h.val * 2048 + k.val * 2 + c.val, by omega⟩ u) :=
  pack_apply _ c h k u

theorem coefAt_eq (b : Fin 4096) (s : Fin 2) (h : Fin 4) (l : Fin 16) :
    coefAt (F := Ideal) (V4 m d r3) b s h l = coefOf (lineP (m (xLoc d)) (V2 m d r1) b) s h := by
  unfold coefAt
  show shapeCast S524288 (V3 m d r2 : S4096x2x4x16.Idx → Elt Ideal .f32) shapeCasts_S4096x2x4x16_S524288 (ix1 _) = _
  rw [show V3 m d r2 = coefArr (Bm m) d from Function.update_self _ _ _, coefArr_eq]
  pointwise
  rfl

/-! ## The result -/

/-- A batch's four line values: the features in the reference's order against the weights, squashed. -/
def lineW (x : S4096x2x4x1024.Idx → EReal) (W : S8192x4.Idx → EReal) (b : Fin 4096) (u : Fin 4) : EReal :=
  Ideal.logistic (∑ i : Fin 8192, x (ix4 b ⟨i.val % 2, by omega⟩ ⟨i.val / 2048, by omega⟩ ⟨i.val / 2 % 1024, by omega⟩) * W (ix2 i u))

/-- The result: the line chosen first, plus the line chosen second scaled. -/
def outW (x : S4096x2x4x1024.Idx → EReal) (W : S8192x4.Idx → EReal) (b : Fin 4096) (c : Fin 2) (s : Fin 2) (w : Fin 1024) : EReal :=
  x (ix4 b c (posA (maskOf (lineW x W b)) s) w) + x (ix4 b c (posD (maskOf (lineW x W b)) s) w) * eps

theorem sum_order (f : Fin 8192 → EReal) :
    (∑ c : Fin 2, ∑ h : Fin 4, ∑ k : Fin 1024, f ⟨h.val * 2048 + k.val * 2 + c.val, by omega⟩) = ∑ i, f i := by
  rw [← Finset.sum_product', ← Finset.sum_product']
  refine Finset.sum_bij' (fun p _ => ⟨p.1.2.val * 2048 + p.2.val * 2 + p.1.1.val, by omega⟩)
    (fun i _ => ((⟨i.val % 2, by omega⟩, ⟨i.val / 2048, by omega⟩), ⟨i.val / 2 % 1024, by omega⟩))
    (fun _ _ => Finset.mem_univ _) (fun _ _ => Finset.mem_univ _) (fun p _ => ?_) (fun i _ => ?_) (fun _ _ => rfl)
  · obtain ⟨⟨c, h⟩, k⟩ := p
    refine Prod.ext (Prod.ext (Fin.ext ?_) (Fin.ext ?_)) (Fin.ext ?_) <;> dsimp only <;> omega
  · apply Fin.ext; dsimp only; omega

theorem lineP_eq (b : Fin 4096) :
    lineP (m (xLoc d)) (V2 m d r1) b = lineW (m (xLoc d)) (m (d, rw₀)) b := by
  funext u
  unfold lineP lineW
  rw [← sum_order]
  simp only [packed_apply]
  congr 1
  refine Finset.sum_congr rfl fun c _ => Finset.sum_congr rfl fun h _ => Finset.sum_congr rfl fun k _ => ?_
  refine congrArg₂ (· * ·) (congrArg _ ?_) (packed_apply d m c h k u)
  congr 1 <;> apply Fin.ext <;> dsimp only <;> omega

theorem tgt_apply (b : Fin 4096) (c : Fin 2) (s : Fin 2) (w : Fin 1024) :
    tgt (F := Ideal) (m (xLoc d)) (V4 m d r3) (ix4 b c s w) = outW (m (xLoc d)) (m (d, rw₀)) b c s w := by
  have hc : (fun h => coefAt (F := Ideal) (V4 m d r3) b s h ⟨w.val % 16, Nat.mod_lt _ (by decide)⟩)
      = fun h => coefOf (lineW (m (xLoc d)) (m (d, rw₀)) b) s h := by
    funext h; rw [coefAt_eq, lineP_eq]
  refine (congrArg (fun k => dot4 (F := Ideal) k fun h => m (xLoc d) (ix4 b c h w)) hc).trans ?_
  exact weighted eps eps_nonneg (fun h => m (xLoc d) (ix4 b c h w)) _ _

end Cert.Proof.Sc

end
-- ==== Proof.ValRef.lean ====
/-
  The reference's operations at an index, at the ideal values: the line's values, their median, the two orders, and the
  lines taken.
-/
module

public import proofs.«01_k».proof.Proof.Gen.ReferenceIdeal.Run
public import proofs.«01_k».proof.Proof.ValArr
public import Idealize.ShloMosaic.Lib.ReduceAll
public import Idealize.ShloMosaic.Lib.Pointwise
public import Idealize.ShloMosaic.Lib.Tactic.CleanTypes

@[expose] public section

noncomputable section

namespace Cert.Proof.Sc

open Cert.ReferenceIdeal Cert.ReferenceIdeal.Gen Cert.ReferenceIdeal.Value
open Idealize.ShloMosaic Idealize.ShloMosaic.StableHlo

/-! ## Folds that change nothing -/

theorem reduce_ori_zero {s t u : Shape} {axes : List (Fin s.rank)} (x : s.Idx → BitVec 1) (init : u.Idx → BitVec 1) (h : s.ReducesTo axes t)
    (hu : 0 < u.numel) (hi : ∀ i, init i = 0#1) (hx : ∀ i, x i = 0#1) (j : t.Idx) : Host.reduce IntOp.ori x init h hu j = 0#1 := by
  unfold Host.reduce
  generalize (List.finRange s.numel).filter _ = l
  rw [hi]
  induction l with
  | nil => rfl
  | cons a l ih => rw [List.foldl_cons, hx]; exact ih

/-! ## Sorts -/

/-- No value differs from itself. -/
theorem une_self (a : Ideal .f32) : FloatOps.cmpf .une a a = 0#1 := by
  show BitVec.ofBool (decide ((a : EReal) ≠ a)) = 0#1
  simp

/-- The comparator puts the smaller value first: zero is written one way, and nothing is undefined. -/
theorem before_f32 (x y : EReal) : comparator_f32_d1 (F := Ideal) x y = BitVec.ofBool (decide (x < y)) := by
  have c (a : Ideal .f32) : Scalar.select (FloatOps.cmpf .oeq a (FloatOps.ofBits .f32 0x00000000#32)) (FloatOps.ofBits .f32 0x00000000#32 : Ideal .f32) a = a := by
    show (if BitVec.ofBool (decide ((a : EReal) = Ideal.ofBits .f32 0x00000000#32)) = 1#1 then Ideal.ofBits .f32 0x00000000#32 else a) = a
    by_cases h : (a : EReal) = Ideal.ofBits .f32 0x00000000#32
    · rw [h]; simp
    · rw [decide_eq_false h]; rfl
  unfold comparator_f32_d1
  dsimp only
  rw [une_self, une_self, c, c]
  rfl

theorem ofBool_beq (p : Bool) : (BitVec.ofBool p == 1#1) = p := by cases p <;> rfl

theorem sort_apply (v : FVec Ideal S4096x4 .f32) (b : Fin 4096) (u : Fin 4) :
    Host.sort S4096x4 1 (comparator_f32_d1 (F := Ideal)) v (ix2 b u)
      = v (ix2 b (sortedFrom (fun k k' => decide ((v (ix2 b k) : EReal) < v (ix2 b k'))) u)) := by
  have al (k : Fin 4) : (ix2 b u).along (s := S4096x4) 1 k = ix2 b k := by
    funext a
    match a with
    | ⟨0, _⟩ => rfl
    | ⟨1, _⟩ => rfl
  refine (congrArg v (al _)).trans ?_
  refine congrArg (fun f => v (ix2 b (sortedFrom f u))) (funext fun k => funext fun k' => ?_)
  refine (congrArg₂ (fun p q => comparator_f32_d1 (F := Ideal) p q == 1#1) (congrArg v (al k)) (congrArg v (al k'))).trans ?_
  exact (congrArg (· == 1#1) (before_f32 _ _)).trans (ofBool_beq _)

theorem argsort_apply (key : IVec S4096x2x4 32) (b : Fin 4096) (c : Fin 2) (u : Fin 4) :
    (Host.sort2 S4096x2x4 2 comparator_i32_i32_d2 key (iotaInDim S4096x2x4 32 2)).2 (ix3 b c u)
      = BitVec.ofNat 32 (sortedFrom (wordBefore fun h => key (ix3 b c h)) u).val := by
  have al (k : Fin 4) : (ix3 b c u).along (s := S4096x2x4) 2 k = ix3 b c k := by
    funext a
    match a with
    | ⟨0, _⟩ => rfl
    | ⟨1, _⟩ => rfl
    | ⟨2, _⟩ => rfl
  refine (congrArg (iotaInDim S4096x2x4 32 2) (al _)).trans ?_
  refine congrArg (fun f => BitVec.ofNat 32 (sortedFrom f u).val) (funext fun k => funext fun k' => ?_)
  exact congrArg₂ (fun p q => IntOp.cmpi .slt p q == 1#1) (congrArg key (al k)) (congrArg key (al k'))

/-! ## Gathers -/

/-- A position's word, read signed and held within the line's four places. -/
theorem place_word (n : Fin 4) : min (BitVec.ofNat 32 n.val).toInt.toNat 3 = n.val := by
  revert n; decide

theorem gather_col (v : FVec Ideal S4096x4 .f32) (i : IVec S1 32) (n : Fin 4) (hn : ∀ j, i j = BitVec.ofNat 32 n.val) (b : Fin 4096) (z : Fin 1) :
    Host.gather gather_S4096x4_S1_S4096x1_01_n_n_n_1_0_40961 v i (ix2 b z) = v (ix2 b n) := by
  refine congrArg v (funext fun a => Fin.ext ?_)
  match a with
  | ⟨0, _⟩ => show 0 + 0 + b.val = b.val; omega
  | ⟨1, _⟩ =>
    show min (i _).toInt.toNat 3 + 0 + z.val = n.val
    rw [hn, place_word]; omega

theorem gather_line (x : FVec Ideal S4096x2x4x1024 .f32) (i : IVec S4096x2x2x1 32) (b : Fin 4096) (c : Fin 2) (s : Fin 2) (w : Fin 1024)
    (n : Fin 4) (hn : i (ix4 b c s 0) = BitVec.ofNat 32 n.val) :
    Host.gather gather_S4096x2x4x1024_S4096x2x2x1_S4096x2x2x1024_3_2_01_01_2_3_1111024 x i (ix4 b c s w) = x (ix4 b c n w) := by
  refine congrArg x (funext fun a => Fin.ext ?_)
  match a with
  | ⟨0, _⟩ => show 0 + b.val + 0 = b.val; omega
  | ⟨1, _⟩ => show 0 + c.val + 0 = c.val; omega
  | ⟨2, _⟩ =>
    show min (i _).toInt.toNat 3 + 0 + 0 = n.val
    rw [← place_word n, ← hn]
    refine congrArg (fun k => min (i k).toInt.toNat 3) (funext fun e => Fin.ext ?_)
    match e with
    | ⟨0, _⟩ => rfl
    | ⟨1, _⟩ => rfl
    | ⟨2, _⟩ => rfl
    | ⟨3, _⟩ => rfl
  | ⟨3, _⟩ => show 0 + 0 + w.val = w.val; omega

/-! ## The reference's values -/

variable (V : Valuation τ sig (Elt Ideal))

abbrev argX : FVec Ideal S4096x2x4x1024 .f32 := V (Proc.devRef .tc main_arg0)
abbrev argW : FVec Ideal S8192x4 .f32 := V (Proc.devRef .tc main_arg1)
/-- A batch's four line values. -/
abbrev rline (b : Fin 4096) : Fin 4 → EReal := lineW (argX V) (argW V) b

theorem v8_apply (b : Fin 4096) (u : Fin 4) : (res_main_v8 V : FVec Ideal S4096x4 .f32) (ix2 b u) = rline V b u := by
  pointwise [res_main_v8]
  rfl

/-- No line value is undefined, so the sort's operand is the line's values. -/
theorem sorted_eq (b : Fin 4096) (u : Fin 4) : (res_main_call0_call0_v4 V : FVec Ideal S4096x4 .f32) (ix2 b u)
    = rline V b (sortedFrom (fun k k' => decide (rline V b k < rline V b k')) u) := by
  unfold res_main_call0_call0_v4
  refine (sort_apply _ b u).trans ?_
  have h (k : Fin 4) : (select (broadcastInDim S4096x4 ![0, 1] bcast_S4096x1_S4096x4_0_1 (broadcastInDim S4096x1 ![0] bcast_S4096_S4096x1_0 (Host.reduce IntOp.ori (cmpf .une (res_main_v8 V) (res_main_v8 V)) (constantI S_ 1 0#1) reducesTo_S4096x4_S4096_d1 h_S_))) (broadcastInDim S4096x4 ![] bcast_S_S4096x4 (id (constant S_ .f32 0x7FC00000#32))) (res_main_v8 V) : FVec Ideal S4096x4 .f32) (ix2 b k) = rline V b k := by
    have hr (j : S4096.Idx) : Host.reduce IntOp.ori (cmpf .une (res_main_v8 V : FVec Ideal S4096x4 .f32) (res_main_v8 V)) (constantI S_ 1 0#1) reducesTo_S4096x4_S4096_d1 h_S_ j = 0#1 := by
      exact reduce_ori_zero _ _ _ _ (fun _ => rfl) (fun i => une_self _) j
    pointwise [hr, v8_apply]
  simp only [h]

/-! ## The median's two positions -/

theorem four_f32 : Ideal.ofBits .f32 0x40800000#32 = ((4 : ℝ) : EReal) := by
  simp [Ideal.ofBits, Ideal.ieee, -EReal.coe_mul]; norm_num
theorem half_f32 : Ideal.ofBits .f32 0x3F000000#32 = ((1 / 2 : ℝ) : EReal) := by
  simp [Ideal.ofBits, Ideal.ieee, -EReal.coe_mul]; norm_num

theorem v6_apply (j : S_.Idx) : (res_main_call0_call0_v6 V : FVec Ideal S_ .f32) j = ((3 / 2 : ℝ) : EReal) := by
  show Ideal.ofBits .f32 0x3F000000#32 * (Ideal.ofBits .f32 0x40800000#32 - Ideal.ofBits .f32 0x3F800000#32) = _
  rw [four_f32, half_f32, Ideal.ofBits_one_f32, ← EReal.coe_one, ← EReal.coe_sub, ← EReal.coe_mul]
  norm_num

/-- The middle position's word, rounded by `f` to the whole number `n` and held within the line's places. -/
theorem mid_word (f : ℝ → ℤ) (n : ℕ) (hf : f (3 / 2) = n) (hn : n < 4) :
    Ideal.fptosi 32 (min (max (Ideal.liftRound f ((3 / 2 : ℝ) : EReal)) (Ideal.ofBits .f32 0x00000000#32))
      (Ideal.ofBits .f32 0x40800000#32 - Ideal.ofBits .f32 0x3F800000#32)) = BitVec.ofNat 32 n := by
  rw [Ideal.liftRound_coe, hf, four_f32, Ideal.ofBits_one_f32, Ideal.ofBits_zero_f32, ← EReal.coe_one, ← EReal.coe_sub, ← EReal.coe_zero]
  have h0 : max (((n : ℤ) : ℝ) : EReal) ((0 : ℝ) : EReal) = ((n : ℝ) : EReal) := by
    rw [max_eq_left (EReal.coe_le_coe_iff.mpr (by positivity))]; norm_cast
  have h1 : min ((n : ℝ) : EReal) ((4 - 1 : ℝ) : EReal) = ((n : ℝ) : EReal) := by
    refine min_eq_left (EReal.coe_le_coe_iff.mpr ?_)
    have : (n : ℝ) ≤ 3 := by exact_mod_cast Nat.le_of_lt_succ hn
    linarith
  rw [h0, h1, Ideal.fptosi, Ideal.toIntClamped_coe, if_pos (by positivity), Int.floor_natCast]
  interval_cases n <;> rfl

/-! ## The mask and the orders -/

/-- The mask: the line's values above the mean of the two middle ones. -/
theorem median_apply (b : Fin 4096) (c : Fin 2) (u : Fin 4) :
    (res_main_v15 V : IVec S4096x2x4 1) (ix3 b c u) = BitVec.ofBool (maskOf (rline V b) u) := by
  have lo := gather_col (res_main_call0_call0_v4 V) (broadcastInDim S1 ![] bcast_S_S1 (fptosi 32 (minimumf (maximumf (res_main_call0_call0_v7 V) (constant S_ .f32 0x00000000#32)) (subf (constant S_ .f32 0x40800000#32) (constant S_ .f32 0x3F800000#32))))) 1
    (fun j => by
      refine Eq.trans ?_ (mid_word Int.floor 1 (by norm_num [Int.floor_eq_iff]) (by decide))
      rw [← v6_apply V (fun a => a.elim0)]
      rfl) b 0
  have hi := gather_col (res_main_call0_call0_v4 V) (broadcastInDim S1 ![] bcast_S_S1 (fptosi 32 (minimumf (maximumf (Host.ceil (res_main_call0_call0_v6 V)) (constant S_ .f32 0x00000000#32)) (subf (constant S_ .f32 0x40800000#32) (constant S_ .f32 0x3F800000#32))))) 2
    (fun j => by
      refine Eq.trans ?_ (mid_word Int.ceil 2 (by norm_num [Int.ceil_eq_iff]) (by decide))
      rw [← v6_apply V (fun a => a.elim0)]
      rfl) b 0
  pointwise [res_main_v15, v8_apply, lo, hi, sorted_eq, (sorted_mid (rline V b)).1, (sorted_mid (rline V b)).2]
  rfl

/-- The positions taken first, and those taken second. -/
theorem first_apply (b : Fin 4096) (c : Fin 2) (s : Fin 2) :
    (res_main_v23 V : IVec S4096x2x2x1 32) (ix4 b c s 0) = BitVec.ofNat 32 (posA (maskOf (rline V b)) s).val := by
  pointwise [res_main_v23, res_main_call1_v0]
  rw [argsort_apply]
  have hk : (fun h => (res_main_v17 V : IVec S4096x2x4 32) (ix3 b c h)) = notW (maskOf (rline V b)) := by
    funext h
    pointwise [res_main_v17, median_apply]
    show BitVec.setWidth 32 (~~~BitVec.ofBool (maskOf (rline V b) h)) = BitVec.setWidth 32 (BitVec.ofBool (!maskOf (rline V b) h))
    cases maskOf (rline V b) h <;> rfl
  rw [hk]
  rfl

theorem second_apply (b : Fin 4096) (c : Fin 2) (s : Fin 2) :
    (res_main_v25 V : IVec S4096x2x2x1 32) (ix4 b c s 0) = BitVec.ofNat 32 (posD (maskOf (rline V b)) s).val := by
  pointwise [res_main_v25, res_main_call2_v0]
  rw [argsort_apply]
  have hk : (fun h => (res_main_v20 V : IVec S4096x2x4 32) (ix3 b c h)) = bitW (maskOf (rline V b)) := by
    funext h
    pointwise [res_main_v20, median_apply]
  rw [hk]
  rfl

/-- Taking a line by positions in range: no position is out of bounds, and the line at the position is read. -/
theorem take_apply (t : IVec S4096x2x2x1 32) (p : Fin 4096 → Fin 2 → Fin 2 → Fin 4) (ht : ∀ b c s, t (ix4 b c s 0) = BitVec.ofNat 32 (p b c s).val)
    (x : FVec Ideal S4096x2x4x1024 .f32) (b : Fin 4096) (c : Fin 2) (s : Fin 2) (w : Fin 1024) :
    (select (broadcastInDim S4096x2x2x1024 ![0, 1, 2] bcast_S4096x2x2_S4096x2x2x1024_0_1_2 (Host.reduce IntOp.andi (andi (cmpi .sge t (broadcastInDim S4096x2x2x1 ![] bcast_S_S4096x2x2x1 (constantI S_ 32 0#32))) (cmpi .sle t (broadcastInDim S4096x2x2x1 ![0, 1, 2, 3] bcast_S1x1x1x1_S4096x2x2x1_0_1_2_3 (broadcastInDim S1x1x1x1 ![3] bcast_S1_S1x1x1x1_3 (constantI S1 32 3#32))))) (constantI S_ 1 1#1) reducesTo_S4096x2x2x1_S4096x2x2_d3 h_S_)) (Host.gather gather_S4096x2x4x1024_S4096x2x2x1_S4096x2x2x1024_3_2_01_01_2_3_1111024 x t) (broadcastInDim S4096x2x2x1024 ![] bcast_S_S4096x2x2x1024 (constant S_ .f32 0x7FC00000#32)) : FVec Ideal S4096x2x2x1024 .f32) (ix4 b c s w)
      = x (ix4 b c (p b c s) w) := by
  have hr (j : S4096x2x2.Idx) : Host.reduce IntOp.andi (andi (cmpi .sge t (broadcastInDim S4096x2x2x1 ![] bcast_S_S4096x2x2x1 (constantI S_ 32 0#32))) (cmpi .sle t (broadcastInDim S4096x2x2x1 ![0, 1, 2, 3] bcast_S1x1x1x1_S4096x2x2x1_0_1_2_3 (broadcastInDim S1x1x1x1 ![3] bcast_S1_S1x1x1x1_3 (constantI S1 32 3#32))))) (constantI S_ 1 1#1) reducesTo_S4096x2x2x1_S4096x2x2_d3 h_S_ j = 1#1 := by
    refine Host.reduce_andi_one _ _ _ _ _ rfl fun i => ?_
    obtain ⟨b, c, s, z, rfl⟩ : ∃ (b : Fin 4096) (c : Fin 2) (s : Fin 2) (z : Fin 1), i = ix4 b c s z := ⟨i 0, i 1, i 2, i 3, eq_ix4 i⟩
    rw [Subsingleton.elim z 0]
    show IntOp.andi (IntOp.cmpi .sge (t (ix4 b c s 0)) 0#32) (IntOp.cmpi .sle (t (ix4 b c s 0)) 3#32) = 1#1
    rw [ht]
    generalize p b c s = n
    revert n; decide
  pointwise [hr]
  exact gather_line x t b c s w _ (ht b c s)

/-- A position is not negative, so taking it does not wrap. -/
theorem wrap_apply (t : IVec S4096x2x2x1 32) (p : Fin 4096 → Fin 2 → Fin 2 → Fin 4) (ht : ∀ b c s, t (ix4 b c s 0) = BitVec.ofNat 32 (p b c s).val)
    (b : Fin 4096) (c : Fin 2) (s : Fin 2) :
    (select (cmpi .slt t (broadcastInDim S4096x2x2x1 ![] bcast_S_S4096x2x2x1 (constantI S_ 32 0#32))) (addi t (broadcastInDim S4096x2x2x1 ![] bcast_S_S4096x2x2x1 (constantI S_ 32 4#32))) t : IVec S4096x2x2x1 32) (ix4 b c s 0)
      = BitVec.ofNat 32 (p b c s).val := by
  show Scalar.select (IntOp.cmpi .slt (t (ix4 b c s 0)) 0#32) (IntOp.addi (t (ix4 b c s 0)) 4#32) (t (ix4 b c s 0)) = _
  rw [ht]
  generalize p b c s = n
  revert n; decide

/-- The reference's result, at an index. -/
theorem ref_apply (b : Fin 4096) (c : Fin 2) (s : Fin 2) (w : Fin 1024) :
    (addf (select (broadcastInDim S4096x2x2x1024 ![0, 1, 2] bcast_S4096x2x2_S4096x2x2x1024_0_1_2 (Host.reduce IntOp.andi (andi (cmpi .sge (res_main_call3_v4 V) (broadcastInDim S4096x2x2x1 ![] bcast_S_S4096x2x2x1 (constantI S_ 32 0#32))) (cmpi .sle (res_main_call3_v4 V) (broadcastInDim S4096x2x2x1 ![0, 1, 2, 3] bcast_S1x1x1x1_S4096x2x2x1_0_1_2_3 (broadcastInDim S1x1x1x1 ![3] bcast_S1_S1x1x1x1_3 (constantI S1 32 3#32))))) (constantI S_ 1 1#1) reducesTo_S4096x2x2x1_S4096x2x2_d3 h_S_)) (Host.gather gather_S4096x2x4x1024_S4096x2x2x1_S4096x2x2x1024_3_2_01_01_2_3_1111024 (V (Proc.devRef .tc main_arg0)) (res_main_call3_v4 V)) (broadcastInDim S4096x2x2x1024 ![] bcast_S_S4096x2x2x1024 (constant S_ .f32 0x7FC00000#32))) (mulf (select (broadcastInDim S4096x2x2x1024 ![0, 1, 2] bcast_S4096x2x2_S4096x2x2x1024_0_1_2 (Host.reduce IntOp.andi (andi (cmpi .sge (res_main_call4_v4 V) (broadcastInDim S4096x2x2x1 ![] bcast_S_S4096x2x2x1 (constantI S_ 32 0#32))) (cmpi .sle (res_main_call4_v4 V) (broadcastInDim S4096x2x2x1 ![0, 1, 2, 3] bcast_S1x1x1x1_S4096x2x2x1_0_1_2_3 (broadcastInDim S1x1x1x1 ![3] bcast_S1_S1x1x1x1_3 (constantI S1 32 3#32))))) (constantI S_ 1 1#1) reducesTo_S4096x2x2x1_S4096x2x2_d3 h_S_)) (Host.gather gather_S4096x2x4x1024_S4096x2x2x1_S4096x2x2x1024_3_2_01_01_2_3_1111024 (V (Proc.devRef .tc main_arg0)) (res_main_call4_v4 V)) (broadcastInDim S4096x2x2x1024 ![] bcast_S_S4096x2x2x1024 (constant S_ .f32 0x7FC00000#32))) (broadcastInDim S4096x2x2x1024 ![] bcast_S_S4096x2x2x1024 (constant S_ .f32 0x38D1B717#32))) : FVec Ideal S4096x2x2x1024 .f32) (ix4 b c s w)
      = outW (argX V) (argW V) b c s w := by
  refine (congrArg₂ (fun p q : EReal => p + q * eps)
    (take_apply (res_main_call3_v4 V) _ (wrap_apply _ _ (first_apply V)) (argX V) b c s w)
    (take_apply (res_main_call4_v4 V) _ (wrap_apply _ _ (second_apply V)) (argX V) b c s w))

end Cert.Proof.Sc

end
-- ==== Proof.Algebraic.lean ====
/-
  The kernel's result is the reference's, at the ideal values.
-/
module

public import proofs.«01_k».proof.Proof.Frames
public import proofs.«01_k».proof.Proof.ValRef

@[expose] public section

noncomputable section

namespace Cert.Proof.Sc

open Idealize.ShloMosaic Idealize.SL.Sem

/-- The result both programs leave, of the features and the weights. -/
def outArr (x : (⟨4, ![4096, 2, 4, 1024]⟩ : Shape).Idx → EReal) (W : (⟨2, ![8192, 4]⟩ : Shape).Idx → EReal) :
    (⟨4, ![4096, 2, 2, 1024]⟩ : Shape).Idx → EReal :=
  fun j => outW x W (j 0) (j 1) (j 2) (j 3)

theorem kernel_out (m : (ℓ : Loc Cert.KernelIdeal.nD Cert.KernelIdeal.τ Cert.KernelIdeal.sig) → Buf (Elt Ideal) ℓ) (d : Dev Cert.KernelIdeal.nD) :
    tgt (F := Ideal) (m (xLoc d)) (V4 m d r3) = outArr (m (xLoc d)) (m (d, rw₀)) := by
  funext j
  obtain ⟨b, c, s, w, rfl⟩ : ∃ (b : Fin 4096) (c : Fin 2) (s : Fin 2) (w : Fin 1024), j = ix4 b c s w := ⟨j 0, j 1, j 2, j 3, eq_ix4 j⟩
  exact tgt_apply d m b c s w

theorem algebraic : Cert.algebraic_KernelIdeal_ReferenceIdeal := fun m g m' g' _ hm => by
  refine ⟨fun c => outArr (m (xLoc c)) (m (c, rw₀)), ?_, ?_⟩
  · exact (θ_run Cert.KernelIdeal.defs _ _).mono (fun _ h c => ⟨(h.1 c).2.2.trans (kernel_out m c), (h.1 c).1, (h.1 c).2.1⟩) (run_main (F := Ideal) m g)
  · refine (θ_run Cert.ReferenceIdeal.defs _ _).mono (fun r h c => ⟨(h c).1.trans ?_, (h c).2.1, (h c).2.2⟩) (Cert.ReferenceIdeal.Value.run (F := Ideal) m' g')
    have e0 : argX (StableHlo.launchContents m' c) = m (xLoc c) := (hm c).1
    have e1 : argW (StableHlo.launchContents m' c) = m (c, rw₀) := (hm c).2
    refine Eq.trans ?_ (congrArg₂ outArr e0 e1)
    funext j
    obtain ⟨b, k, s, w, rfl⟩ : ∃ (b : Fin 4096) (k : Fin 2) (s : Fin 2) (w : Fin 1024), j = ix4 b k s w := ⟨j 0, j 1, j 2, j 3, eq_ix4 j⟩
    exact ref_apply (StableHlo.launchContents m' c) b k s w

end Cert.Proof.Sc

end
-- ==== Proof.lean ====
/-
  The certificate's claims, each from the module that proves it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Sc.frame_kernel, Sc.frame_ideal, Sc.frame_reference, trivial, Sc.algebraic⟩

end Cert.Proof

end
